-- ==== Defs.lean ====
def Pre_Kernel [hPre_classes_in_range : Cert.Pre_classes_in_range.Facts] (m : (ℓ : Loc Cert.Kernel.nD Cert.Kernel.τ Cert.Kernel.sig) → Buf (Elt Bits) ℓ) : Prop :=
  ∀ c : Dev Cert.Kernel.nD,
    (Cert.Pre_classes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_classes_in_range : Cert.Pre_classes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel) (hPre_classes_in_range := hPre_classes_in_range)
    ∧ quiescent_KernelIdeal (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal (hKernelIdeal := hKernelIdeal) (hReferenceIdeal := hReferenceIdeal) (hPre_classes_in_range := hPre_classes_in_range)
-- ==== Pre_classes_in_range.lean ====
abbrev S4x384x384x3 : Shape := ⟨4, ![4, 384, 384, 3]⟩
abbrev S4x100x6 : Shape := ⟨3, ![4, 100, 6]⟩
abbrev S4x100x384x384 : Shape := ⟨4, ![4, 100, 384, 384]⟩
abbrev S21x3 : Shape := ⟨2, ![21, 3]⟩
abbrev S4x100x1 : Shape := ⟨3, ![4, 100, 1]⟩
abbrev S4x100 : Shape := ⟨2, ![4, 100]⟩
abbrev S_ : Shape := ⟨0, ![]⟩

class Facts : Prop where
  slices_S4x100x6_S4x100x1_0_0_4 : S4x100x6.Slices ![0, 0, 4] S4x100x1
  shapeCasts_S4x100x1_S4x100 : S4x100x1.ShapeCasts S4x100
  bcast_S_S4x100 : S_.BroadcastsInDim S4x100 (![] : Fin 0 → Fin S4x100.rank)

variable [Facts]

def fn {F : FTy → Type} [FloatOps F] (main_arg0 : FVec F S4x384x384x3 .f32) (main_arg1 : FVec F S4x100x6 .f32) (main_arg2 : FVec F S4x100x384x384 .f32) (main_arg3 : FVec F S21x3 .f32) : IVec S4x100 1 :=
  let main_v0 : FVec F S4x100x1 .f32 := (extractStridedSlice S4x100x1 ![0, 0, 4] · slices_S4x100x6_S4x100x1_0_0_4) main_arg1
  let main_v1 : FVec F S4x100 .f32 := shapeCast S4x100 main_v0 shapeCasts_S4x100x1_S4x100
  let main_v2 : IVec S4x100 32 := fptosi 32 main_v1
  let main_c : IVec S_ 32 := constantI S_ 32 0#32
  let main_v3 : IVec S4x100 32 := broadcastInDim S4x100 ![] bcast_S_S4x100 main_c
  let main_v4 : IVec S4x100 1 := cmpi .sge main_v2 main_v3
  let main_c_0 : IVec S_ 32 := constantI S_ 32 21#32
  let main_v5 : IVec S4x100 32 := broadcastInDim S4x100 ![] bcast_S_S4x100 main_c_0
  let main_v6 : IVec S4x100 1 := cmpi .slt main_v2 main_v5
  let main_v7 : IVec S4x100 1 := andi main_v4 main_v6
  main_v7
-- ==== Kernel.lean ====
abbrev S4x384x384x3 : Shape := ⟨4, ![4, 384, 384, 3]⟩
abbrev S4x100x6 : Shape := ⟨3, ![4, 100, 6]⟩
abbrev S4x100x384x384 : Shape := ⟨4, ![4, 100, 384, 384]⟩
abbrev S21x3 : Shape := ⟨2, ![21, 3]⟩
abbrev S4x100x1 : Shape := ⟨3, ![4, 100, 1]⟩
abbrev S4x100 : Shape := ⟨2, ![4, 100]⟩
abbrev S4x3x384x384 : Shape := ⟨4, ![4, 3, 384, 384]⟩
abbrev S1x100x96x384 : Shape := ⟨4, ![1, 100, 96, 384]⟩
abbrev S1x3x96x384 : Shape := ⟨4, ![1, 3, 96, 384]⟩
abbrev S21x96x384 : Shape := ⟨3, ![21, 96, 384]⟩
abbrev S1x1 : Shape := ⟨2, ![1, 1]⟩
abbrev S1x96x384 : Shape := ⟨3, ![1, 96, 384]⟩
abbrev S1x1x96x384 : Shape := ⟨4, ![1, 1, 96, 384]⟩
abbrev S96x384 : Shape := ⟨2, ![96, 384]⟩

abbrev nBuf : Space → Nat
  | .hbm => 10
  | .vmem => 7
  | .smem => 2
  | _ => 0

abbrev bufTy : (tb : Table) → Fin (tcTables nBuf tb) → BufTy
  | .hbm, ⟨0, _⟩ => ⟨S4x384x384x3, .f32⟩
  | .hbm, ⟨1, _⟩ => ⟨S4x100x6, .f32⟩
  | .hbm, ⟨2, _⟩ => ⟨S4x100x384x384, .f32⟩
  | .hbm, ⟨3, _⟩ => ⟨S21x3, .f32⟩
  | .hbm, ⟨4, _⟩ => ⟨S4x100x1, .f32⟩
  | .hbm, ⟨5, _⟩ => ⟨S4x100, .f32⟩
  | .hbm, ⟨6, _⟩ => ⟨S4x100, .i32⟩
  | .hbm, ⟨7, _⟩ => ⟨S4x3x384x384, .f32⟩
  | .hbm, ⟨8, _⟩ => ⟨S4x3x384x384, .i8⟩
  | .hbm, ⟨9, _⟩ => ⟨S4x384x384x3, .i8⟩
  | .local _ .vmem, ⟨0, _⟩ => ⟨S1x100x96x384, .f32⟩
  | .local _ .vmem, ⟨1, _⟩ => ⟨S1x100x96x384, .f32⟩
  | .local _ .vmem, ⟨2, _⟩ => ⟨S1x3x96x384, .f32⟩
  | .local _ .vmem, ⟨3, _⟩ => ⟨S1x3x96x384, .f32⟩
  | .local _ .vmem, ⟨4, _⟩ => ⟨S1x3x96x384, .i8⟩
  | .local _ .vmem, ⟨5, _⟩ => ⟨S1x3x96x384, .i8⟩
  | .local _ .vmem, ⟨6, _⟩ => ⟨S21x96x384, .f32⟩
  | .local _ .smem, ⟨0, _⟩ => ⟨S4x100, .i32⟩
  | .local _ .smem, ⟨1, _⟩ => ⟨S21x3, .f32⟩
  | _, _ => ⟨S4x384x384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v4 : Index := Scalar.indexCast arg0
  let c0_2 : Index := 0#32
  ![v4.toNat, 0]
def k0_off2 (v5 : BitVec 32) : Fin 3 → Nat :=
  let v6 : Index := Scalar.indexCast v5
  let c0_3 : Index := 0#32
  let c0_4 : Index := 0#32
  ![v6.toNat, 0, 0]

def k0_chk1 (v5 : BitVec 32) : Prop :=
  (∀ a, (k0_off2 v5) a + S1x96x384.size a ≤ S21x96x384.size a)
theorem k0_off2_inb : ∀ (v5 : BitVec 32) (k0_hw1 : k0_chk1 v5), ∀ a, (k0_off2 v5) a + S1x96x384.size a ≤ S21x96x384.size a := fun v5 k0_hw1 => k0_hw1

def k0_off3 (i : grid0.Coords) : Fin 2 → Nat :=
  let arg0 : BitVec 32 := BitVec.ofNat 32 (i 0).val
  let v16 : Index := Scalar.indexCast arg0
  let c1 : Index := 1#32
  ![v16.toNat, 1]
def k0_off4 (v17 : BitVec 32) : Fin 3 → Nat :=
  let v18 : Index := Scalar.indexCast v17
  let c0_11 : Index := 0#32
  let c0_12 : Index := 0#32
  ![v18.toNat, 0, 0]

def k0_chk2 (v17 : BitVec 32) : Prop :=
  (∀ a, (k0_off4 v17) a + S1x96x384.size a ≤ S21x96x384.size a)
theorem k0_off4_inb : ∀ (v17 : BitVec 32) (k0_hw2 : k0_chk2 v17), ∀ a, (k0_off4 v17) a + S1x96x384.size a ≤ S21x96x384.size a := fun v17 k0_hw2 => k0_hw2

def k0_off5 (i : grid0.Coords) : Fin 2 → Nat :=
  let arg0 : BitVec 32 := BitVec.ofNat 32 (i 0).val
  let v28 : Index := Scalar.indexCast arg0
  let c2 : Index := 2#32
  ![v28.toNat, 2]
def k0_off6 (v29 : BitVec 32) : Fin 3 → Nat :=
  let v30 : Index := Scalar.indexCast v29
  let c0_19 : Index := 0#32
  let c0_20 : Index := 0#32
  ![v30.toNat, 0, 0]

def k0_chk3 (v29 : BitVec 32) : Prop :=
  (∀ a, (k0_off6 v29) a + S1x96x384.size a ≤ S21x96x384.size a)
theorem k0_off6_inb : ∀ (v29 : BitVec 32) (k0_hw3 : k0_chk3 v29), ∀ a, (k0_off6 v29) a + S1x96x384.size a ≤ S21x96x384.size a := fun v29 k0_hw3 => k0_hw3

def k0_off7 (i : grid0.Coords) : Fin 2 → Nat :=
  let arg0 : BitVec 32 := BitVec.ofNat 32 (i 0).val
  let v40 : Index := Scalar.indexCast arg0
  let c3 : Index := 3#32
  ![v40.toNat, 3]
def k0_off8 (v41 : BitVec 32) : Fin 3 → Nat :=
  let v42 : Index := Scalar.indexCast v41
  let c0_27 : Index := 0#32
  let c0_28 : Index := 0#32
  ![v42.toNat, 0, 0]

def k0_chk4 (v41 : BitVec 32) : Prop :=
  (∀ a, (k0_off8 v41) a + S1x96x384.size a ≤ S21x96x384.size a)
theorem k0_off8_inb : ∀ (v41 : BitVec 32) (k0_hw4 : k0_chk4 v41), ∀ a, (k0_off8 v41) a + S1x96x384.size a ≤ S21x96x384.size a := fun v41 k0_hw4 => k0_hw4

def k0_off9 (i : grid0.Coords) : Fin 2 → Nat :=
  let arg0 : BitVec 32 := BitVec.ofNat 32 (i 0).val
  let v52 : Index := Scalar.indexCast arg0
  let c4 : Index := 4#32
  ![v52.toNat, 4]
def k0_off10 (v53 : BitVec 32) : Fin 3 → Nat :=
  let v54 : Index := Scalar.indexCast v53
  let c0_35 : Index := 0#32
  let c0_36 : Index := 0#32
  ![v54.toNat, 0, 0]

def k0_chk5 (v53 : BitVec 32) : Prop :=
  (∀ a, (k0_off10 v53) a + S1x96x384.size a ≤ S21x96x384.size a)
theorem k0_off10_inb : ∀ (v53 : BitVec 32) (k0_hw5 : k0_chk5 v53), ∀ a, (k0_off10 v53) a + S1x96x384.size a ≤ S21x96x384.size a := fun v53 k0_hw5 => k0_hw5

def k0_off11 (i : grid0.Coords) : Fin 2 → Nat :=
  let arg0 : BitVec 32 := BitVec.ofNat 32 (i 0).val
  let v64 : Index := Scalar.indexCast arg0
  let c5 : Index := 5#32
  ![v64.toNat, 5]
def k0_off12 (v65 : BitVec 32) : Fin 3 → Nat :=
  let v66 : Index := Scalar.indexCast v65
  let c0_43 : Index := 0#32
  let c0_44 : Index := 0#32
  ![v66.toNat, 0, 0]

def k0_chk6 (v65 : BitVec 32) : Prop :=
  (∀ a, (k0_off12 v65) a + S1x96x384.size a ≤ S21x96x384.size a)
theorem k0_off12_inb : ∀ (v65 : BitVec 32) (k0_hw6 : k0_chk6 v65), ∀ a, (k0_off12 v65) a + S1x96x384.size a ≤ S21x96x384.size a := fun v65 k0_hw6 => k0_hw6

def k0_off13 (i : grid0.Coords) : Fin 2 → Nat :=
  let arg0 : BitVec 32 := BitVec.ofNat 32 (i 0).val
  let v76 : Index := Scalar.indexCast arg0
  let c6 : Index := 6#32
  ![v76.toNat, 6]
def k0_off14 (v77 : BitVec 32) : Fin 3 → Nat :=
  let v78 : Index := Scalar.indexCast v77
  let c0_51 : Index := 0#32
  let c0_52 : Index := 0#32
  ![v78.toNat, 0, 0]

def k0_chk7 (v77 : BitVec 32) : Prop :=
  (∀ a, (k0_off14 v77) a + S1x96x384.size a ≤ S21x96x384.size a)
theorem k0_off14_inb : ∀ (v77 : BitVec 32) (k0_hw7 : k0_chk7 v77), ∀ a, (k0_off14 v77) a + S1x96x384.size a ≤ S21x96x384.size a := fun v77 k0_hw7 => k0_hw7

def k0_off15 (i : grid0.Coords) : Fin 2 → Nat :=
  let arg0 : BitVec 32 := BitVec.ofNat 32 (i 0).val
  let v88 : Index := Scalar.indexCast arg0
  let c7 : Index := 7#32
  ![v88.toNat, 7]
def k0_off16 (v89 : BitVec 32) : Fin 3 → Nat :=
  let v90 : Index := Scalar.indexCast v89
  let c0_59 : Index := 0#32
  let c0_60 : Index := 0#32
  ![v90.toNat, 0, 0]

def k0_chk8 (v89 : BitVec 32) : Prop :=
  (∀ a, (k0_off16 v89) a + S1x96x384.size a ≤ S21x96x384.size a)
theorem k0_off16_inb : ∀ (v89 : BitVec 32) (k0_hw8 : k0_chk8 v89), ∀ a, (k0_off16 v89) a + S1x96x384.size a ≤ S21x96x384.size a := fun v89 k0_hw8 => k0_hw8

def k0_off17 (i : grid0.Coords) : Fin 2 → Nat :=
  let arg0 : BitVec 32 := BitVec.ofNat 32 (i 0).val
  let v100 : Index := Scalar.indexCast arg0
  let c8 : Index := 8#32
  ![v100.toNat, 8]
def k0_off18 (v101 : BitVec 32) : Fin 3 → Nat :=
  let v102 : Index := Scalar.indexCast v101
  let c0_67 : Index := 0#32
  let c0_68 : Index := 0#32
  ![v102.toNat, 0, 0]

def k0_chk9 (v101 : BitVec 32) : Prop :=
  (∀ a, (k0_off18 v101) a + S1x96x384.size a ≤ S21x96x384.size a)
theorem k0_off18_inb : ∀ (v101 : BitVec 32) (k0_hw9 : k0_chk9 v101), ∀ a, (k0_off18 v101) a + S1x96x384.size a ≤ S21x96x384.size a := fun v101 k0_hw9 => k0_hw9

def k0_off19 (i : grid0.Coords) : Fin 2 → Nat :=
  let arg0 : BitVec 32 := BitVec.ofNat 32 (i 0).val
  let v112 : Index := Scalar.indexCast arg0
  let c9 : Index := 9#32
  ![v112.toNat, 9]
def k0_off20 (v113 : BitVec 32) : Fin 3 → Nat :=
  let v114 : Index := Scalar.indexCast v113
  let c0_75 : Index := 0#32
  let c0_76 : Index := 0#32
  ![v114.toNat, 0, 0]

def k0_chk10 (v113 : BitVec 32) : Prop :=
  (∀ a, (k0_off20 v113) a + S1x96x384.size a ≤ S21x96x384.size a)
theorem k0_off20_inb : ∀ (v113 : BitVec 32) (k0_hw10 : k0_chk10 v113), ∀ a, (k0_off20 v113) a + S1x96x384.size a ≤ S21x96x384.size a := fun v113 k0_hw10 => k0_hw10

def k0_off21 (i : grid0.Coords) : Fin 2 → Nat :=
  let arg0 : BitVec 32 := BitVec.ofNat 32 (i 0).val
  let v124 : Index := Scalar.indexCast arg0
  let c10 : Index := 10#32
  ![v124.toNat, 10]
def k0_off22 (v125 : BitVec 32) : Fin 3 → Nat :=
  let v126 : Index := Scalar.indexCast v125
  let c0_83 : Index := 0#32
  let c0_84 : Index := 0#32
  ![v126.toNat, 0, 0]

def k0_chk11 (v125 : BitVec 32) : Prop :=
  (∀ a, (k0_off22 v125) a + S1x96x384.size a ≤ S21x96x384.size a)
theorem k0_off22_inb : ∀ (v125 : BitVec 32) (k0_hw11 : k0_chk11 v125), ∀ a, (k0_off22 v125) a + S1x96x384.size a ≤ S21x96x384.size a := fun v125 k0_hw11 => k0_hw11

def k0_off23 (i : grid0.Coords) : Fin 2 → Nat :=
  let arg0 : BitVec 32 := BitVec.ofNat 32 (i 0).val
  let v136 : Index := Scalar.indexCast arg0
  let c11 : Index := 11#32
  ![v136.toNat, 11]
def k0_off24 (v137 : BitVec 32) : Fin 3 → Nat :=
  let v138 : Index := Scalar.indexCast v137
  let c0_91 : Index := 0#32
  let c0_92 : Index := 0#32
  ![v138.toNat, 0, 0]

def k0_chk12 (v137 : BitVec 32) : Prop :=
  (∀ a, (k0_off24 v137) a + S1x96x384.size a ≤ S21x96x384.size a)
theorem k0_off24_inb : ∀ (v137 : BitVec 32) (k0_hw12 : k0_chk12 v137), ∀ a, (k0_off24 v137) a + S1x96x384.size a ≤ S21x96x384.size a := fun v137 k0_hw12 => k0_hw12

def k0_off25 (i : grid0.Coords) : Fin 2 → Nat :=
  let arg0 : BitVec 32 := BitVec.ofNat 32 (i 0).val
  let v148 : Index := Scalar.indexCast arg0
  let c12 : Index := 12#32
  ![v148.toNat, 12]
def k0_off26 (v149 : BitVec 32) : Fin 3 → Nat :=
  let v150 : Index := Scalar.indexCast v149
  let c0_99 : Index := 0#32
  let c0_100 : Index := 0#32
  ![v150.toNat, 0, 0]

def k0_chk13 (v149 : BitVec 32) : Prop :=
  (∀ a, (k0_off26 v149) a + S1x96x384.size a ≤ S21x96x384.size a)
theorem k0_off26_inb : ∀ (v149 : BitVec 32) (k0_hw13 : k0_chk13 v149), ∀ a, (k0_off26 v149) a + S1x96x384.size a ≤ S21x96x384.size a := fun v149 k0_hw13 => k0_hw13

def k0_off27 (i : grid0.Coords) : Fin 2 → Nat :=
  let arg0 : BitVec 32 := BitVec.ofNat 32 (i 0).val
  let v160 : Index := Scalar.indexCast arg0
  let c13 : Index := 13#32
  ![v160.toNat, 13]
def k0_off28 (v161 : BitVec 32) : Fin 3 → Nat :=
  let v162 : Index := Scalar.indexCast v161
  let c0_107 : Index := 0#32
  let c0_108 : Index := 0#32
  ![v162.toNat, 0, 0]

def k0_chk14 (v161 : BitVec 32) : Prop :=
  (∀ a, (k0_off28 v161) a + S1x96x384.size a ≤ S21x96x384.size a)
theorem k0_off28_inb : ∀ (v161 : BitVec 32) (k0_hw14 : k0_chk14 v161), ∀ a, (k0_off28 v161) a + S1x96x384.size a ≤ S21x96x384.size a := fun v161 k0_hw14 => k0_hw14

def k0_off29 (i : grid0.Coords) : Fin 2 → Nat :=
  let arg0 : BitVec 32 := BitVec.ofNat 32 (i 0).val
  let v172 : Index := Scalar.indexCast arg0
  let c14 : Index := 14#32
  ![v172.toNat, 14]
def k0_off30 (v173 : BitVec 32) : Fin 3 → Nat :=
  let v174 : Index := Scalar.indexCast v173
  let c0_115 : Index := 0#32
  let c0_116 : Index := 0#32
  ![v174.toNat, 0, 0]

def k0_chk15 (v173 : BitVec 32) : Prop :=
  (∀ a, (k0_off30 v173) a + S1x96x384.size a ≤ S21x96x384.size a)
theorem k0_off30_inb : ∀ (v173 : BitVec 32) (k0_hw15 : k0_chk15 v173), ∀ a, (k0_off30 v173) a + S1x96x384.size a ≤ S21x96x384.size a := fun v173 k0_hw15 => k0_hw15

def k0_off31 (i : grid0.Coords) : Fin 2 → Nat :=
  let arg0 : BitVec 32 := BitVec.ofNat 32 (i 0).val
  let v184 : Index := Scalar.indexCast arg0
  let c15 : Index := 15#32
  ![v184.toNat, 15]
def k0_off32 (v185 : BitVec 32) : Fin 3 → Nat :=
  let v186 : Index := Scalar.indexCast v185
  let c0_123 : Index := 0#32
  let c0_124 : Index := 0#32
  ![v186.toNat, 0, 0]

def k0_chk16 (v185 : BitVec 32) : Prop :=
  (∀ a, (k0_off32 v185) a + S1x96x384.size a ≤ S21x96x384.size a)
theorem k0_off32_inb : ∀ (v185 : BitVec 32) (k0_hw16 : k0_chk16 v185), ∀ a, (k0_off32 v185) a + S1x96x384.size a ≤ S21x96x384.size a := fun v185 k0_hw16 => k0_hw16

def k0_off33 (i : grid0.Coords) : Fin 2 → Nat :=
  let arg0 : BitVec 32 := BitVec.ofNat 32 (i 0).val
  let v196 : Index := Scalar.indexCast arg0
  let c16 : Index := 16#32
  ![v196.toNat, 16]
def k0_off34 (v197 : BitVec 32) : Fin 3 → Nat :=
  let v198 : Index := Scalar.indexCast v197
  let c0_131 : Index := 0#32
  let c0_132 : Index := 0#32
  ![v198.toNat, 0, 0]

def k0_chk17 (v197 : BitVec 32) : Prop :=
  (∀ a, (k0_off34 v197) a + S1x96x384.size a ≤ S21x96x384.size a)
theorem k0_off34_inb : ∀ (v197 : BitVec 32) (k0_hw17 : k0_chk17 v197), ∀ a, (k0_off34 v197) a + S1x96x384.size a ≤ S21x96x384.size a := fun v197 k0_hw17 => k0_hw17

def k0_off35 (i : grid0.Coords) : Fin 2 → Nat :=
  let arg0 : BitVec 32 := BitVec.ofNat 32 (i 0).val
  let v208 : Index := Scalar.indexCast arg0
  let c17 : Index := 17#32
  ![v208.toNat, 17]
def k0_off36 (v209 : BitVec 32) : Fin 3 → Nat :=
  let v210 : Index := Scalar.indexCast v209
  let c0_139 : Index := 0#32
  let c0_140 : Index := 0#32
  ![v210.toNat, 0, 0]

def k0_chk18 (v209 : BitVec 32) : Prop :=
  (∀ a, (k0_off36 v209) a + S1x96x384.size a ≤ S21x96x384.size a)
theorem k0_off36_inb : ∀ (v209 : BitVec 32) (k0_hw18 : k0_chk18 v209), ∀ a, (k0_off36 v209) a + S1x96x384.size a ≤ S21x96x384.size a := fun v209 k0_hw18 => k0_hw18

def k0_off37 (i : grid0.Coords) : Fin 2 → Nat :=
  let arg0 : BitVec 32 := BitVec.ofNat 32 (i 0).val
  let v220 : Index := Scalar.indexCast arg0
  let c18 : Index := 18#32
  ![v220.toNat, 18]
def k0_off38 (v221 : BitVec 32) : Fin 3 → Nat :=
  let v222 : Index := Scalar.indexCast v221
  let c0_147 : Index := 0#32
  let c0_148 : Index := 0#32
  ![v222.toNat, 0, 0]

def k0_chk19 (v221 : BitVec 32) : Prop :=
  (∀ a, (k0_off38 v221) a + S1x96x384.size a ≤ S21x96x384.size a)
theorem k0_off38_inb : ∀ (v221 : BitVec 32) (k0_hw19 : k0_chk19 v221), ∀ a, (k0_off38 v221) a + S1x96x384.size a ≤ S21x96x384.size a := fun v221 k0_hw19 => k0_hw19

def k0_off39 (i : grid0.Coords) : Fin 2 → Nat :=
  let arg0 : BitVec 32 := BitVec.ofNat 32 (i 0).val
  let v232 : Index := Scalar.indexCast arg0
  let c19 : Index := 19#32
  ![v232.toNat, 19]
def k0_off40 (v233 : BitVec 32) : Fin 3 → Nat :=
  let v234 : Index := Scalar.indexCast v233
  let c0_155 : Index := 0#32
  let c0_156 : Index := 0#32
  ![v234.toNat, 0, 0]

def k0_chk20 (v233 : BitVec 32) : Prop :=
  (∀ a, (k0_off40 v233) a + S1x96x384.size a ≤ S21x96x384.size a)
theorem k0_off40_inb : ∀ (v233 : BitVec 32) (k0_hw20 : k0_chk20 v233), ∀ a, (k0_off40 v233) a + S1x96x384.size a ≤ S21x96x384.size a := fun v233 k0_hw20 => k0_hw20

def k0_off41 (i : grid0.Coords) : Fin 2 → Nat :=
  let arg0 : BitVec 32 := BitVec.ofNat 32 (i 0).val
  let v244 : Index := Scalar.indexCast arg0
  let c20 : Index := 20#32
  ![v244.toNat, 20]
def k0_off42 (v245 : BitVec 32) : Fin 3 → Nat :=
  let v246 : Index := Scalar.indexCast v245
  let c0_163 : Index := 0#32
  let c0_164 : Index := 0#32
  ![v246.toNat, 0, 0]

def k0_chk21 (v245 : BitVec 32) : Prop :=
  (∀ a, (k0_off42 v245) a + S1x96x384.size a ≤ S21x96x384.size a)
theorem k0_off42_inb : ∀ (v245 : BitVec 32) (k0_hw21 : k0_chk21 v245), ∀ a, (k0_off42 v245) a + S1x96x384.size a ≤ S21x96x384.size a := fun v245 k0_hw21 => k0_hw21

def k0_off43 (i : grid0.Coords) : Fin 2 → Nat :=
  let arg0 : BitVec 32 := BitVec.ofNat 32 (i 0).val
  let v256 : Index := Scalar.indexCast arg0
  let c21 : Index := 21#32
  ![v256.toNat, 21]
def k0_off44 (v257 : BitVec 32) : Fin 3 → Nat :=
  let v258 : Index := Scalar.indexCast v257
  let c0_171 : Index := 0#32
  let c0_172 : Index := 0#32
  ![v258.toNat, 0, 0]

def k0_chk22 (v257 : BitVec 32) : Prop :=
  (∀ a, (k0_off44 v257) a + S1x96x384.size a ≤ S21x96x384.size a)
theorem k0_off44_inb : ∀ (v257 : BitVec 32) (k0_hw22 : k0_chk22 v257), ∀ a, (k0_off44 v257) a + S1x96x384.size a ≤ S21x96x384.size a := fun v257 k0_hw22 => k0_hw22

def k0_off45 (i : grid0.Coords) : Fin 2 → Nat :=
  let arg0 : BitVec 32 := BitVec.ofNat 32 (i 0).val
  let v268 : Index := Scalar.indexCast arg0
  let c22 : Index := 22#32
  ![v268.toNat, 22]
def k0_off46 (v269 : BitVec 32) : Fin 3 → Nat :=
  let v270 : Index := Scalar.indexCast v269
  let c0_179 : Index := 0#32
  let c0_180 : Index := 0#32
  ![v270.toNat, 0, 0]

def k0_chk23 (v269 : BitVec 32) : Prop :=
  (∀ a, (k0_off46 v269) a + S1x96x384.size a ≤ S21x96x384.size a)
theorem k0_off46_inb : ∀ (v269 : BitVec 32) (k0_hw23 : k0_chk23 v269), ∀ a, (k0_off46 v269) a + S1x96x384.size a ≤ S21x96x384.size a := fun v269 k0_hw23 => k0_hw23

def k0_off47 (i : grid0.Coords) : Fin 2 → Nat :=
  let arg0 : BitVec 32 := BitVec.ofNat 32 (i 0).val
  let v280 : Index := Scalar.indexCast arg0
  let c23 : Index := 23#32
  ![v280.toNat, 23]
def k0_off48 (v281 : BitVec 32) : Fin 3 → Nat :=
  let v282 : Index := Scalar.indexCast v281
  let c0_187 : Index := 0#32
  let c0_188 : Index := 0#32
  ![v282.toNat, 0, 0]

def k0_chk24 (v281 : BitVec 32) : Prop :=
  (∀ a, (k0_off48 v281) a + S1x96x384.size a ≤ S21x96x384.size a)
theorem k0_off48_inb : ∀ (v281 : BitVec 32) (k0_hw24 : k0_chk24 v281), ∀ a, (k0_off48 v281) a + S1x96x384.size a ≤ S21x96x384.size a := fun v281 k0_hw24 => k0_hw24

def k0_off49 (i : grid0.Coords) : Fin 2 → Nat :=
  let arg0 : BitVec 32 := BitVec.ofNat 32 (i 0).val
  let v292 : Index := Scalar.indexCast arg0
  let c24 : Index := 24#32
  ![v292.toNat, 24]
def k0_off50 (v293 : BitVec 32) : Fin 3 → Nat :=
  let v294 : Index := Scalar.indexCast v293
  let c0_195 : Index := 0#32
  let c0_196 : Index := 0#32
  ![v294.toNat, 0, 0]

def k0_chk25 (v293 : BitVec 32) : Prop :=
  (∀ a, (k0_off50 v293) a + S1x96x384.size a ≤ S21x96x384.size a)
theorem k0_off50_inb : ∀ (v293 : BitVec 32) (k0_hw25 : k0_chk25 v293), ∀ a, (k0_off50 v293) a + S1x96x384.size a ≤ S21x96x384.size a := fun v293 k0_hw25 => k0_hw25

def k0_off51 (i : grid0.Coords) : Fin 2 → Nat :=
  let arg0 : BitVec 32 := BitVec.ofNat 32 (i 0).val
  let v304 : Index := Scalar.indexCast arg0
  let c25 : Index := 25#32
  ![v304.toNat, 25]
def k0_off52 (v305 : BitVec 32) : Fin 3 → Nat :=
  let v306 : Index := Scalar.indexCast v305
  let c0_203 : Index := 0#32
  let c0_204 : Index := 0#32
  ![v306.toNat, 0, 0]

def k0_chk26 (v305 : BitVec 32) : Prop :=
  (∀ a, (k0_off52 v305) a + S1x96x384.size a ≤ S21x96x384.size a)
theorem k0_off52_inb : ∀ (v305 : BitVec 32) (k0_hw26 : k0_chk26 v305), ∀ a, (k0_off52 v305) a + S1x96x384.size a ≤ S21x96x384.size a := fun v305 k0_hw26 => k0_hw26

def k0_off53 (i : grid0.Coords) : Fin 2 → Nat :=
  let arg0 : BitVec 32 := BitVec.ofNat 32 (i 0).val
  let v316 : Index := Scalar.indexCast arg0
  let c26 : Index := 26#32
  ![v316.toNat, 26]
def k0_off54 (v317 : BitVec 32) : Fin 3 → Nat :=
  let v318 : Index := Scalar.indexCast v317
  let c0_211 : Index := 0#32
  let c0_212 : Index := 0#32
  ![v318.toNat, 0, 0]

def k0_chk27 (v317 : BitVec 32) : Prop :=
  (∀ a, (k0_off54 v317) a + S1x96x384.size a ≤ S21x96x384.size a)
theorem k0_off54_inb : ∀ (v317 : BitVec 32) (k0_hw27 : k0_chk27 v317), ∀ a, (k0_off54 v317) a + S1x96x384.size a ≤ S21x96x384.size a := fun v317 k0_hw27 => k0_hw27

def k0_off55 (i : grid0.Coords) : Fin 2 → Nat :=
  let arg0 : BitVec 32 := BitVec.ofNat 32 (i 0).val
  let v328 : Index := Scalar.indexCast arg0
  let c27 : Index := 27#32
  ![v328.toNat, 27]
def k0_off56 (v329 : BitVec 32) : Fin 3 → Nat :=
  let v330 : Index := Scalar.indexCast v329
  let c0_219 : Index := 0#32
  let c0_220 : Index := 0#32
  ![v330.toNat, 0, 0]

def k0_chk28 (v329 : BitVec 32) : Prop :=
  (∀ a, (k0_off56 v329) a + S1x96x384.size a ≤ S21x96x384.size a)
theorem k0_off56_inb : ∀ (v329 : BitVec 32) (k0_hw28 : k0_chk28 v329), ∀ a, (k0_off56 v329) a + S1x96x384.size a ≤ S21x96x384.size a := fun v329 k0_hw28 => k0_hw28

def k0_off57 (i : grid0.Coords) : Fin 2 → Nat :=
  let arg0 : BitVec 32 := BitVec.ofNat 32 (i 0).val
  let v340 : Index := Scalar.indexCast arg0
  let c28 : Index := 28#32
  ![v340.toNat, 28]
def k0_off58 (v341 : BitVec 32) : Fin 3 → Nat :=
  let v342 : Index := Scalar.indexCast v341
  let c0_227 : Index := 0#32
  let c0_228 : Index := 0#32
  ![v342.toNat, 0, 0]

def k0_chk29 (v341 : BitVec 32) : Prop :=
  (∀ a, (k0_off58 v341) a + S1x96x384.size a ≤ S21x96x384.size a)
theorem k0_off58_inb : ∀ (v341 : BitVec 32) (k0_hw29 : k0_chk29 v341), ∀ a, (k0_off58 v341) a + S1x96x384.size a ≤ S21x96x384.size a := fun v341 k0_hw29 => k0_hw29

def k0_off59 (i : grid0.Coords) : Fin 2 → Nat :=
  let arg0 : BitVec 32 := BitVec.ofNat 32 (i 0).val
  let v352 : Index := Scalar.indexCast arg0
  let c29 : Index := 29#32
  ![v352.toNat, 29]
def k0_off60 (v353 : BitVec 32) : Fin 3 → Nat :=
  let v354 : Index := Scalar.indexCast v353
  let c0_235 : Index := 0#32
  let c0_236 : Index := 0#32
  ![v354.toNat, 0, 0]

def k0_chk30 (v353 : BitVec 32) : Prop :=
  (∀ a, (k0_off60 v353) a + S1x96x384.size a ≤ S21x96x384.size a)
theorem k0_off60_inb : ∀ (v353 : BitVec 32) (k0_hw30 : k0_chk30 v353), ∀ a, (k0_off60 v353) a + S1x96x384.size a ≤ S21x96x384.size a := fun v353 k0_hw30 => k0_hw30

def k0_off61 (i : grid0.Coords) : Fin 2 → Nat :=
  let arg0 : BitVec 32 := BitVec.ofNat 32 (i 0).val
  let v364 : Index := Scalar.indexCast arg0
  let c30 : Index := 30#32
  ![v364.toNat, 30]
def k0_off62 (v365 : BitVec 32) : Fin 3 → Nat :=
  let v366 : Index := Scalar.indexCast v365
  let c0_243 : Index := 0#32
  let c0_244 : Index := 0#32
  ![v366.toNat, 0, 0]

def k0_chk31 (v365 : BitVec 32) : Prop :=
  (∀ a, (k0_off62 v365) a + S1x96x384.size a ≤ S21x96x384.size a)
theorem k0_off62_inb : ∀ (v365 : BitVec 32) (k0_hw31 : k0_chk31 v365), ∀ a, (k0_off62 v365) a + S1x96x384.size a ≤ S21x96x384.size a := fun v365 k0_hw31 => k0_hw31

def k0_off63 (i : grid0.Coords) : Fin 2 → Nat :=
  let arg0 : BitVec 32 := BitVec.ofNat 32 (i 0).val
  let v376 : Index := Scalar.indexCast arg0
  let c31 : Index := 31#32
  ![v376.toNat, 31]
def k0_off64 (v377 : BitVec 32) : Fin 3 → Nat :=
  let v378 : Index := Scalar.indexCast v377
  let c0_251 : Index := 0#32
  let c0_252 : Index := 0#32
  ![v378.toNat, 0, 0]

def k0_chk32 (v377 : BitVec 32) : Prop :=
  (∀ a, (k0_off64 v377) a + S1x96x384.size a ≤ S21x96x384.size a)
theorem k0_off64_inb : ∀ (v377 : BitVec 32) (k0_hw32 : k0_chk32 v377), ∀ a, (k0_off64 v377) a + S1x96x384.size a ≤ S21x96x384.size a := fun v377 k0_hw32 => k0_hw32

def k0_off65 (i : grid0.Coords) : Fin 2 → Nat :=
  let arg0 : BitVec 32 := BitVec.ofNat 32 (i 0).val
  let v388 : Index := Scalar.indexCast arg0
  let c32 : Index := 32#32
  ![v388.toNat, 32]
def k0_off66 (v389 : BitVec 32) : Fin 3 → Nat :=
  let v390 : Index := Scalar.indexCast v389
  let c0_259 : Index := 0#32
  let c0_260 : Index := 0#32
  ![v390.toNat, 0, 0]

def k0_chk33 (v389 : BitVec 32) : Prop :=
  (∀ a, (k0_off66 v389) a + S1x96x384.size a ≤ S21x96x384.size a)
theorem k0_off66_inb : ∀ (v389 : BitVec 32) (k0_hw33 : k0_chk33 v389), ∀ a, (k0_off66 v389) a + S1x96x384.size a ≤ S21x96x384.size a := fun v389 k0_hw33 => k0_hw33

def k0_off67 (i : grid0.Coords) : Fin 2 → Nat :=
  let arg0 : BitVec 32 := BitVec.ofNat 32 (i 0).val
  let v400 : Index := Scalar.indexCast arg0
  let c33 : Index := 33#32
  ![v400.toNat, 33]
def k0_off68 (v401 : BitVec 32) : Fin 3 → Nat :=
  let v402 : Index := Scalar.indexCast v401
  let c0_267 : Index := 0#32
  let c0_268 : Index := 0#32
  ![v402.toNat, 0, 0]

def k0_chk34 (v401 : BitVec 32) : Prop :=
  (∀ a, (k0_off68 v401) a + S1x96x384.size a ≤ S21x96x384.size a)
theorem k0_off68_inb : ∀ (v401 : BitVec 32) (k0_hw34 : k0_chk34 v401), ∀ a, (k0_off68 v401) a + S1x96x384.size a ≤ S21x96x384.size a := fun v401 k0_hw34 => k0_hw34

def k0_off69 (i : grid0.Coords) : Fin 2 → Nat :=
  let arg0 : BitVec 32 := BitVec.ofNat 32 (i 0).val
  let v412 : Index := Scalar.indexCast arg0
  let c34 : Index := 34#32
  ![v412.toNat, 34]
def k0_off70 (v413 : BitVec 32) : Fin 3 → Nat :=
  let v414 : Index := Scalar.indexCast v413
  let c0_275 : Index := 0#32
  let c0_276 : Index := 0#32
  ![v414.toNat, 0, 0]

def k0_chk35 (v413 : BitVec 32) : Prop :=
  (∀ a, (k0_off70 v413) a + S1x96x384.size a ≤ S21x96x384.size a)
theorem k0_off70_inb : ∀ (v413 : BitVec 32) (k0_hw35 : k0_chk35 v413), ∀ a, (k0_off70 v413) a + S1x96x384.size a ≤ S21x96x384.size a := fun v413 k0_hw35 => k0_hw35

def k0_off71 (i : grid0.Coords) : Fin 2 → Nat :=
  let arg0 : BitVec 32 := BitVec.ofNat 32 (i 0).val
  let v424 : Index := Scalar.indexCast arg0
  let c35 : Index := 35#32
  ![v424.toNat, 35]
def k0_off72 (v425 : BitVec 32) : Fin 3 → Nat :=
  let v426 : Index := Scalar.indexCast v425
  let c0_283 : Index := 0#32
  let c0_284 : Index := 0#32
  ![v426.toNat, 0, 0]

def k0_chk36 (v425 : BitVec 32) : Prop :=
  (∀ a, (k0_off72 v425) a + S1x96x384.size a ≤ S21x96x384.size a)
theorem k0_off72_inb : ∀ (v425 : BitVec 32) (k0_hw36 : k0_chk36 v425), ∀ a, (k0_off72 v425) a + S1x96x384.size a ≤ S21x96x384.size a := fun v425 k0_hw36 => k0_hw36

def k0_off73 (i : grid0.Coords) : Fin 2 → Nat :=
  let arg0 : BitVec 32 := BitVec.ofNat 32 (i 0).val
  let v436 : Index := Scalar.indexCast arg0
  let c36 : Index := 36#32
  ![v436.toNat, 36]
def k0_off74 (v437 : BitVec 32) : Fin 3 → Nat :=
  let v438 : Index := Scalar.indexCast v437
  let c0_291 : Index := 0#32
  let c0_292 : Index := 0#32
  ![v438.toNat, 0, 0]

def k0_chk37 (v437 : BitVec 32) : Prop :=
  (∀ a, (k0_off74 v437) a + S1x96x384.size a ≤ S21x96x384.size a)
theorem k0_off74_inb : ∀ (v437 : BitVec 32) (k0_hw37 : k0_chk37 v437), ∀ a, (k0_off74 v437) a + S1x96x384.size a ≤ S21x96x384.size a := fun v437 k0_hw37 => k0_hw37

def k0_off75 (i : grid0.Coords) : Fin 2 → Nat :=
  let arg0 : BitVec 32 := BitVec.ofNat 32 (i 0).val
  let v448 : Index := Scalar.indexCast arg0
  let c37 : Index := 37#32
  ![v448.toNat, 37]
def k0_off76 (v449 : BitVec 32) : Fin 3 → Nat :=
  let v450 : Index := Scalar.indexCast v449
  let c0_299 : Index := 0#32
  let c0_300 : Index := 0#32
  ![v450.toNat, 0, 0]

def k0_chk38 (v449 : BitVec 32) : Prop :=
  (∀ a, (k0_off76 v449) a + S1x96x384.size a ≤ S21x96x384.size a)
theorem k0_off76_inb : ∀ (v449 : BitVec 32) (k0_hw38 : k0_chk38 v449), ∀ a, (k0_off76 v449) a + S1x96x384.size a ≤ S21x96x384.size a := fun v449 k0_hw38 => k0_hw38

def k0_off77 (i : grid0.Coords) : Fin 2 → Nat :=
  let arg0 : BitVec 32 := BitVec.ofNat 32 (i 0).val
  let v460 : Index := Scalar.indexCast arg0
  let c38 : Index := 38#32
  ![v460.toNat, 38]
def k0_off78 (v461 : BitVec 32) : Fin 3 → Nat :=
  let v462 : Index := Scalar.indexCast v461
  let c0_307 : Index := 0#32
  let c0_308 : Index := 0#32
  ![v462.toNat, 0, 0]

def k0_chk39 (v461 : BitVec 32) : Prop :=
  (∀ a, (k0_off78 v461) a + S1x96x384.size a ≤ S21x96x384.size a)
theorem k0_off78_inb : ∀ (v461 : BitVec 32) (k0_hw39 : k0_chk39 v461), ∀ a, (k0_off78 v461) a + S1x96x384.size a ≤ S21x96x384.size a := fun v461 k0_hw39 => k0_hw39

def k0_off79 (i : grid0.Coords) : Fin 2 → Nat :=
  let arg0 : BitVec 32 := BitVec.ofNat 32 (i 0).val
  let v472 : Index := Scalar.indexCast arg0
  let c39 : Index := 39#32
  ![v472.toNat, 39]
def k0_off80 (v473 : BitVec 32) : Fin 3 → Nat :=
  let v474 : Index := Scalar.indexCast v473
  let c0_315 : Index := 0#32
  let c0_316 : Index := 0#32
  ![v474.toNat, 0, 0]

def k0_chk40 (v473 : BitVec 32) : Prop :=
  (∀ a, (k0_off80 v473) a + S1x96x384.size a ≤ S21x96x384.size a)
theorem k0_off80_inb : ∀ (v473 : BitVec 32) (k0_hw40 : k0_chk40 v473), ∀ a, (k0_off80 v473) a + S1x96x384.size a ≤ S21x96x384.size a := fun v473 k0_hw40 => k0_hw40

def k0_off81 (i : grid0.Coords) : Fin 2 → Nat :=
  let arg0 : BitVec 32 := BitVec.ofNat 32 (i 0).val
  let v484 : Index := Scalar.indexCast arg0
  let c40 : Index := 40#32
  ![v484.toNat, 40]
def k0_off82 (v485 : BitVec 32) : Fin 3 → Nat :=
  let v486 : Index := Scalar.indexCast v485
  let c0_323 : Index := 0#32
  let c0_324 : Index := 0#32
  ![v486.toNat, 0, 0]

def k0_chk41 (v485 : BitVec 32) : Prop :=
  (∀ a, (k0_off82 v485) a + S1x96x384.size a ≤ S21x96x384.size a)
theorem k0_off82_inb : ∀ (v485 : BitVec 32) (k0_hw41 : k0_chk41 v485), ∀ a, (k0_off82 v485) a + S1x96x384.size a ≤ S21x96x384.size a := fun v485 k0_hw41 => k0_hw41

def k0_off83 (i : grid0.Coords) : Fin 2 → Nat :=
  let arg0 : BitVec 32 := BitVec.ofNat 32 (i 0).val
  let v496 : Index := Scalar.indexCast arg0
  let c41 : Index := 41#32
  ![v496.toNat, 41]
def k0_off84 (v497 : BitVec 32) : Fin 3 → Nat :=
  let v498 : Index := Scalar.indexCast v497
  let c0_331 : Index := 0#32
  let c0_332 : Index := 0#32
  ![v498.toNat, 0, 0]

def k0_chk42 (v497 : BitVec 32) : Prop :=
  (∀ a, (k0_off84 v497) a + S1x96x384.size a ≤ S21x96x384.size a)
theorem k0_off84_inb : ∀ (v497 : BitVec 32) (k0_hw42 : k0_chk42 v497), ∀ a, (k0_off84 v497) a + S1x96x384.size a ≤ S21x96x384.size a := fun v497 k0_hw42 => k0_hw42

def k0_off85 (i : grid0.Coords) : Fin 2 → Nat :=
  let arg0 : BitVec 32 := BitVec.ofNat 32 (i 0).val
  let v508 : Index := Scalar.indexCast arg0
  let c42 : Index := 42#32
  ![v508.toNat, 42]
def k0_off86 (v509 : BitVec 32) : Fin 3 → Nat :=
  let v510 : Index := Scalar.indexCast v509
  let c0_339 : Index := 0#32
  let c0_340 : Index := 0#32
  ![v510.toNat, 0, 0]

def k0_chk43 (v509 : BitVec 32) : Prop :=
  (∀ a, (k0_off86 v509) a + S1x96x384.size a ≤ S21x96x384.size a)
theorem k0_off86_inb : ∀ (v509 : BitVec 32) (k0_hw43 : k0_chk43 v509), ∀ a, (k0_off86 v509) a + S1x96x384.size a ≤ S21x96x384.size a := fun v509 k0_hw43 => k0_hw43

def k0_off87 (i : grid0.Coords) : Fin 2 → Nat :=
  let arg0 : BitVec 32 := BitVec.ofNat 32 (i 0).val
  let v520 : Index := Scalar.indexCast arg0
  let c43 : Index := 43#32
  ![v520.toNat, 43]
def k0_off88 (v521 : BitVec 32) : Fin 3 → Nat :=
  let v522 : Index := Scalar.indexCast v521
  let c0_347 : Index := 0#32
  let c0_348 : Index := 0#32
  ![v522.toNat, 0, 0]

def k0_chk44 (v521 : BitVec 32) : Prop :=
  (∀ a, (k0_off88 v521) a + S1x96x384.size a ≤ S21x96x384.size a)
theorem k0_off88_inb : ∀ (v521 : BitVec 32) (k0_hw44 : k0_chk44 v521), ∀ a, (k0_off88 v521) a + S1x96x384.size a ≤ S21x96x384.size a := fun v521 k0_hw44 => k0_hw44

def k0_off89 (i : grid0.Coords) : Fin 2 → Nat :=
  let arg0 : BitVec 32 := BitVec.ofNat 32 (i 0).val
  let v532 : Index := Scalar.indexCast arg0
  let c44 : Index := 44#32
  ![v532.toNat, 44]
def k0_off90 (v533 : BitVec 32) : Fin 3 → Nat :=
  let v534 : Index := Scalar.indexCast v533
  let c0_355 : Index := 0#32
  let c0_356 : Index := 0#32
  ![v534.toNat, 0, 0]

def k0_chk45 (v533 : BitVec 32) : Prop :=
  (∀ a, (k0_off90 v533) a + S1x96x384.size a ≤ S21x96x384.size a)
theorem k0_off90_inb : ∀ (v533 : BitVec 32) (k0_hw45 : k0_chk45 v533), ∀ a, (k0_off90 v533) a + S1x96x384.size a ≤ S21x96x384.size a := fun v533 k0_hw45 => k0_hw45

def k0_off91 (i : grid0.Coords) : Fin 2 → Nat :=
  let arg0 : BitVec 32 := BitVec.ofNat 32 (i 0).val
  let v544 : Index := Scalar.indexCast arg0
  let c45 : Index := 45#32
  ![v544.toNat, 45]
def k0_off92 (v545 : BitVec 32) : Fin 3 → Nat :=
  let v546 : Index := Scalar.indexCast v545
  let c0_363 : Index := 0#32
  let c0_364 : Index := 0#32
  ![v546.toNat, 0, 0]

def k0_chk46 (v545 : BitVec 32) : Prop :=
  (∀ a, (k0_off92 v545) a + S1x96x384.size a ≤ S21x96x384.size a)
theorem k0_off92_inb : ∀ (v545 : BitVec 32) (k0_hw46 : k0_chk46 v545), ∀ a, (k0_off92 v545) a + S1x96x384.size a ≤ S21x96x384.size a := fun v545 k0_hw46 => k0_hw46

def k0_off93 (i : grid0.Coords) : Fin 2 → Nat :=
  let arg0 : BitVec 32 := BitVec.ofNat 32 (i 0).val
  let v556 : Index := Scalar.indexCast arg0
  let c46 : Index := 46#32
  ![v556.toNat, 46]
def k0_off94 (v557 : BitVec 32) : Fin 3 → Nat :=
  let v558 : Index := Scalar.indexCast v557
  let c0_371 : Index := 0#32
  let c0_372 : Index := 0#32
  ![v558.toNat, 0, 0]

def k0_chk47 (v557 : BitVec 32) : Prop :=
  (∀ a, (k0_off94 v557) a + S1x96x384.size a ≤ S21x96x384.size a)
theorem k0_off94_inb : ∀ (v557 : BitVec 32) (k0_hw47 : k0_chk47 v557), ∀ a, (k0_off94 v557) a + S1x96x384.size a ≤ S21x96x384.size a := fun v557 k0_hw47 => k0_hw47

def k0_off95 (i : grid0.Coords) : Fin 2 → Nat :=
  let arg0 : BitVec 32 := BitVec.ofNat 32 (i 0).val
  let v568 : Index := Scalar.indexCast arg0
  let c47 : Index := 47#32
  ![v568.toNat, 47]
def k0_off96 (v569 : BitVec 32) : Fin 3 → Nat :=
  let v570 : Index := Scalar.indexCast v569
  let c0_379 : Index := 0#32
  let c0_380 : Index := 0#32
  ![v570.toNat, 0, 0]

def k0_chk48 (v569 : BitVec 32) : Prop :=
  (∀ a, (k0_off96 v569) a + S1x96x384.size a ≤ S21x96x384.size a)
theorem k0_off96_inb : ∀ (v569 : BitVec 32) (k0_hw48 : k0_chk48 v569), ∀ a, (k0_off96 v569) a + S1x96x384.size a ≤ S21x96x384.size a := fun v569 k0_hw48 => k0_hw48

def k0_off97 (i : grid0.Coords) : Fin 2 → Nat :=
  let arg0 : BitVec 32 := BitVec.ofNat 32 (i 0).val
  let v580 : Index := Scalar.indexCast arg0
  let c48 : Index := 48#32
  ![v580.toNat, 48]
def k0_off98 (v581 : BitVec 32) : Fin 3 → Nat :=
  let v582 : Index := Scalar.indexCast v581
  let c0_387 : Index := 0#32
  let c0_388 : Index := 0#32
  ![v582.toNat, 0, 0]

def k0_chk49 (v581 : BitVec 32) : Prop :=
  (∀ a, (k0_off98 v581) a + S1x96x384.size a ≤ S21x96x384.size a)
theorem k0_off98_inb : ∀ (v581 : BitVec 32) (k0_hw49 : k0_chk49 v581), ∀ a, (k0_off98 v581) a + S1x96x384.size a ≤ S21x96x384.size a := fun v581 k0_hw49 => k0_hw49

def k0_off99 (i : grid0.Coords) : Fin 2 → Nat :=
  let arg0 : BitVec 32 := BitVec.ofNat 32 (i 0).val
  let v592 : Index := Scalar.indexCast arg0
  let c49 : Index := 49#32
  ![v592.toNat, 49]
def k0_off100 (v593 : BitVec 32) : Fin 3 → Nat :=
  let v594 : Index := Scalar.indexCast v593
  let c0_395 : Index := 0#32
  let c0_396 : Index := 0#32
  ![v594.toNat, 0, 0]

def k0_chk50 (v593 : BitVec 32) : Prop :=
  (∀ a, (k0_off100 v593) a + S1x96x384.size a ≤ S21x96x384.size a)
theorem k0_off100_inb : ∀ (v593 : BitVec 32) (k0_hw50 : k0_chk50 v593), ∀ a, (k0_off100 v593) a + S1x96x384.size a ≤ S21x96x384.size a := fun v593 k0_hw50 => k0_hw50

def k0_off101 (i : grid0.Coords) : Fin 2 → Nat :=
  let arg0 : BitVec 32 := BitVec.ofNat 32 (i 0).val
  let v604 : Index := Scalar.indexCast arg0
  let c50 : Index := 50#32
  ![v604.toNat, 50]
def k0_off102 (v605 : BitVec 32) : Fin 3 → Nat :=
  let v606 : Index := Scalar.indexCast v605
  let c0_403 : Index := 0#32
  let c0_404 : Index := 0#32
  ![v606.toNat, 0, 0]

def k0_chk51 (v605 : BitVec 32) : Prop :=
  (∀ a, (k0_off102 v605) a + S1x96x384.size a ≤ S21x96x384.size a)
theorem k0_off102_inb : ∀ (v605 : BitVec 32) (k0_hw51 : k0_chk51 v605), ∀ a, (k0_off102 v605) a + S1x96x384.size a ≤ S21x96x384.size a := fun v605 k0_hw51 => k0_hw51

def k0_off103 (i : grid0.Coords) : Fin 2 → Nat :=
  let arg0 : BitVec 32 := BitVec.ofNat 32 (i 0).val
  let v616 : Index := Scalar.indexCast arg0
  let c51 : Index := 51#32
  ![v616.toNat, 51]
def k0_off104 (v617 : BitVec 32) : Fin 3 → Nat :=
  let v618 : Index := Scalar.indexCast v617
  let c0_411 : Index := 0#32
  let c0_412 : Index := 0#32
  ![v618.toNat, 0, 0]

def k0_chk52 (v617 : BitVec 32) : Prop :=
  (∀ a, (k0_off104 v617) a + S1x96x384.size a ≤ S21x96x384.size a)
theorem k0_off104_inb : ∀ (v617 : BitVec 32) (k0_hw52 : k0_chk52 v617), ∀ a, (k0_off104 v617) a + S1x96x384.size a ≤ S21x96x384.size a := fun v617 k0_hw52 => k0_hw52

def k0_off105 (i : grid0.Coords) : Fin 2 → Nat :=
  let arg0 : BitVec 32 := BitVec.ofNat 32 (i 0).val
  let v628 : Index := Scalar.indexCast arg0
  let c52 : Index := 52#32
  ![v628.toNat, 52]
def k0_off106 (v629 : BitVec 32) : Fin 3 → Nat :=
  let v630 : Index := Scalar.indexCast v629
  let c0_419 : Index := 0#32
  let c0_420 : Index := 0#32
  ![v630.toNat, 0, 0]

def k0_chk53 (v629 : BitVec 32) : Prop :=
  (∀ a, (k0_off106 v629) a + S1x96x384.size a ≤ S21x96x384.size a)
theorem k0_off106_inb : ∀ (v629 : BitVec 32) (k0_hw53 : k0_chk53 v629), ∀ a, (k0_off106 v629) a + S1x96x384.size a ≤ S21x96x384.size a := fun v629 k0_hw53 => k0_hw53

def k0_off107 (i : grid0.Coords) : Fin 2 → Nat :=
  let arg0 : BitVec 32 := BitVec.ofNat 32 (i 0).val
  let v640 : Index := Scalar.indexCast arg0
  let c53 : Index := 53#32
  ![v640.toNat, 53]
def k0_off108 (v641 : BitVec 32) : Fin 3 → Nat :=
  let v642 : Index := Scalar.indexCast v641
  let c0_427 : Index := 0#32
  let c0_428 : Index := 0#32
  ![v642.toNat, 0, 0]

def k0_chk54 (v641 : BitVec 32) : Prop :=
  (∀ a, (k0_off108 v641) a + S1x96x384.size a ≤ S21x96x384.size a)
theorem k0_off108_inb : ∀ (v641 : BitVec 32) (k0_hw54 : k0_chk54 v641), ∀ a, (k0_off108 v641) a + S1x96x384.size a ≤ S21x96x384.size a := fun v641 k0_hw54 => k0_hw54

def k0_off109 (i : grid0.Coords) : Fin 2 → Nat :=
  let arg0 : BitVec 32 := BitVec.ofNat 32 (i 0).val
  let v652 : Index := Scalar.indexCast arg0
  let c54 : Index := 54#32
  ![v652.toNat, 54]
def k0_off110 (v653 : BitVec 32) : Fin 3 → Nat :=
  let v654 : Index := Scalar.indexCast v653
  let c0_435 : Index := 0#32
  let c0_436 : Index := 0#32
  ![v654.toNat, 0, 0]

def k0_chk55 (v653 : BitVec 32) : Prop :=
  (∀ a, (k0_off110 v653) a + S1x96x384.size a ≤ S21x96x384.size a)
theorem k0_off110_inb : ∀ (v653 : BitVec 32) (k0_hw55 : k0_chk55 v653), ∀ a, (k0_off110 v653) a + S1x96x384.size a ≤ S21x96x384.size a := fun v653 k0_hw55 => k0_hw55

def k0_off111 (i : grid0.Coords) : Fin 2 → Nat :=
  let arg0 : BitVec 32 := BitVec.ofNat 32 (i 0).val
  let v664 : Index := Scalar.indexCast arg0
  let c55 : Index := 55#32
  ![v664.toNat, 55]
def k0_off112 (v665 : BitVec 32) : Fin 3 → Nat :=
  let v666 : Index := Scalar.indexCast v665
  let c0_443 : Index := 0#32
  let c0_444 : Index := 0#32
  ![v666.toNat, 0, 0]

def k0_chk56 (v665 : BitVec 32) : Prop :=
  (∀ a, (k0_off112 v665) a + S1x96x384.size a ≤ S21x96x384.size a)
theorem k0_off112_inb : ∀ (v665 : BitVec 32) (k0_hw56 : k0_chk56 v665), ∀ a, (k0_off112 v665) a + S1x96x384.size a ≤ S21x96x384.size a := fun v665 k0_hw56 => k0_hw56

def k0_off113 (i : grid0.Coords) : Fin 2 → Nat :=
  let arg0 : BitVec 32 := BitVec.ofNat 32 (i 0).val
  let v676 : Index := Scalar.indexCast arg0
  let c56 : Index := 56#32
  ![v676.toNat, 56]
def k0_off114 (v677 : BitVec 32) : Fin 3 → Nat :=
  let v678 : Index := Scalar.indexCast v677
  let c0_451 : Index := 0#32
  let c0_452 : Index := 0#32
  ![v678.toNat, 0, 0]

def k0_chk57 (v677 : BitVec 32) : Prop :=
  (∀ a, (k0_off114 v677) a + S1x96x384.size a ≤ S21x96x384.size a)
theorem k0_off114_inb : ∀ (v677 : BitVec 32) (k0_hw57 : k0_chk57 v677), ∀ a, (k0_off114 v677) a + S1x96x384.size a ≤ S21x96x384.size a := fun v677 k0_hw57 => k0_hw57

def k0_off115 (i : grid0.Coords) : Fin 2 → Nat :=
  let arg0 : BitVec 32 := BitVec.ofNat 32 (i 0).val
  let v688 : Index := Scalar.indexCast arg0
  let c57 : Index := 57#32
  ![v688.toNat, 57]
def k0_off116 (v689 : BitVec 32) : Fin 3 → Nat :=
  let v690 : Index := Scalar.indexCast v689
  let c0_459 : Index := 0#32
  let c0_460 : Index := 0#32
  ![v690.toNat, 0, 0]

def k0_chk58 (v689 : BitVec 32) : Prop :=
  (∀ a, (k0_off116 v689) a + S1x96x384.size a ≤ S21x96x384.size a)
theorem k0_off116_inb : ∀ (v689 : BitVec 32) (k0_hw58 : k0_chk58 v689), ∀ a, (k0_off116 v689) a + S1x96x384.size a ≤ S21x96x384.size a := fun v689 k0_hw58 => k0_hw58

def k0_off117 (i : grid0.Coords) : Fin 2 → Nat :=
  let arg0 : BitVec 32 := BitVec.ofNat 32 (i 0).val
  let v700 : Index := Scalar.indexCast arg0
  let c58 : Index := 58#32
  ![v700.toNat, 58]
def k0_off118 (v701 : BitVec 32) : Fin 3 → Nat :=
  let v702 : Index := Scalar.indexCast v701
  let c0_467 : Index := 0#32
  let c0_468 : Index := 0#32
  ![v702.toNat, 0, 0]

def k0_chk59 (v701 : BitVec 32) : Prop :=
  (∀ a, (k0_off118 v701) a + S1x96x384.size a ≤ S21x96x384.size a)
theorem k0_off118_inb : ∀ (v701 : BitVec 32) (k0_hw59 : k0_chk59 v701), ∀ a, (k0_off118 v701) a + S1x96x384.size a ≤ S21x96x384.size a := fun v701 k0_hw59 => k0_hw59

def k0_off119 (i : grid0.Coords) : Fin 2 → Nat :=
  let arg0 : BitVec 32 := BitVec.ofNat 32 (i 0).val
  let v712 : Index := Scalar.indexCast arg0
  let c59 : Index := 59#32
  ![v712.toNat, 59]
def k0_off120 (v713 : BitVec 32) : Fin 3 → Nat :=
  let v714 : Index := Scalar.indexCast v713
  let c0_475 : Index := 0#32
  let c0_476 : Index := 0#32
  ![v714.toNat, 0, 0]

def k0_chk60 (v713 : BitVec 32) : Prop :=
  (∀ a, (k0_off120 v713) a + S1x96x384.size a ≤ S21x96x384.size a)
theorem k0_off120_inb : ∀ (v713 : BitVec 32) (k0_hw60 : k0_chk60 v713), ∀ a, (k0_off120 v713) a + S1x96x384.size a ≤ S21x96x384.size a := fun v713 k0_hw60 => k0_hw60

def k0_off121 (i : grid0.Coords) : Fin 2 → Nat :=
  let arg0 : BitVec 32 := BitVec.ofNat 32 (i 0).val
  let v724 : Index := Scalar.indexCast arg0
  let c60 : Index := 60#32
  ![v724.toNat, 60]
def k0_off122 (v725 : BitVec 32) : Fin 3 → Nat :=
  let v726 : Index := Scalar.indexCast v725
  let c0_483 : Index := 0#32
  let c0_484 : Index := 0#32
  ![v726.toNat, 0, 0]

def k0_chk61 (v725 : BitVec 32) : Prop :=
  (∀ a, (k0_off122 v725) a + S1x96x384.size a ≤ S21x96x384.size a)
theorem k0_off122_inb : ∀ (v725 : BitVec 32) (k0_hw61 : k0_chk61 v725), ∀ a, (k0_off122 v725) a + S1x96x384.size a ≤ S21x96x384.size a := fun v725 k0_hw61 => k0_hw61

def k0_off123 (i : grid0.Coords) : Fin 2 → Nat :=
  let arg0 : BitVec 32 := BitVec.ofNat 32 (i 0).val
  let v736 : Index := Scalar.indexCast arg0
  let c61 : Index := 61#32
  ![v736.toNat, 61]
def k0_off124 (v737 : BitVec 32) : Fin 3 → Nat :=
  let v738 : Index := Scalar.indexCast v737
  let c0_491 : Index := 0#32
  let c0_492 : Index := 0#32
  ![v738.toNat, 0, 0]

def k0_chk62 (v737 : BitVec 32) : Prop :=
  (∀ a, (k0_off124 v737) a + S1x96x384.size a ≤ S21x96x384.size a)
theorem k0_off124_inb : ∀ (v737 : BitVec 32) (k0_hw62 : k0_chk62 v737), ∀ a, (k0_off124 v737) a + S1x96x384.size a ≤ S21x96x384.size a := fun v737 k0_hw62 => k0_hw62

def k0_off125 (i : grid0.Coords) : Fin 2 → Nat :=
  let arg0 : BitVec 32 := BitVec.ofNat 32 (i 0).val
  let v748 : Index := Scalar.indexCast arg0
  let c62 : Index := 62#32
  ![v748.toNat, 62]
def k0_off126 (v749 : BitVec 32) : Fin 3 → Nat :=
  let v750 : Index := Scalar.indexCast v749
  let c0_499 : Index := 0#32
  let c0_500 : Index := 0#32
  ![v750.toNat, 0, 0]

def k0_chk63 (v749 : BitVec 32) : Prop :=
  (∀ a, (k0_off126 v749) a + S1x96x384.size a ≤ S21x96x384.size a)
theorem k0_off126_inb : ∀ (v749 : BitVec 32) (k0_hw63 : k0_chk63 v749), ∀ a, (k0_off126 v749) a + S1x96x384.size a ≤ S21x96x384.size a := fun v749 k0_hw63 => k0_hw63

def k0_off127 (i : grid0.Coords) : Fin 2 → Nat :=
  let arg0 : BitVec 32 := BitVec.ofNat 32 (i 0).val
  let v760 : Index := Scalar.indexCast arg0
  let c63 : Index := 63#32
  ![v760.toNat, 63]
def k0_off128 (v761 : BitVec 32) : Fin 3 → Nat :=
  let v762 : Index := Scalar.indexCast v761
  let c0_507 : Index := 0#32
  let c0_508 : Index := 0#32
  ![v762.toNat, 0, 0]

def k0_chk64 (v761 : BitVec 32) : Prop :=
  (∀ a, (k0_off128 v761) a + S1x96x384.size a ≤ S21x96x384.size a)
theorem k0_off128_inb : ∀ (v761 : BitVec 32) (k0_hw64 : k0_chk64 v761), ∀ a, (k0_off128 v761) a + S1x96x384.size a ≤ S21x96x384.size a := fun v761 k0_hw64 => k0_hw64

def k0_off129 (i : grid0.Coords) : Fin 2 → Nat :=
  let arg0 : BitVec 32 := BitVec.ofNat 32 (i 0).val
  let v772 : Index := Scalar.indexCast arg0
  let c64 : Index := 64#32
  ![v772.toNat, 64]
def k0_off130 (v773 : BitVec 32) : Fin 3 → Nat :=
  let v774 : Index := Scalar.indexCast v773
  let c0_515 : Index := 0#32
  let c0_516 : Index := 0#32
  ![v774.toNat, 0, 0]

def k0_chk65 (v773 : BitVec 32) : Prop :=
  (∀ a, (k0_off130 v773) a + S1x96x384.size a ≤ S21x96x384.size a)
theorem k0_off130_inb : ∀ (v773 : BitVec 32) (k0_hw65 : k0_chk65 v773), ∀ a, (k0_off130 v773) a + S1x96x384.size a ≤ S21x96x384.size a := fun v773 k0_hw65 => k0_hw65

def k0_off131 (i : grid0.Coords) : Fin 2 → Nat :=
  let arg0 : BitVec 32 := BitVec.ofNat 32 (i 0).val
  let v784 : Index := Scalar.indexCast arg0
  let c65 : Index := 65#32
  ![v784.toNat, 65]
def k0_off132 (v785 : BitVec 32) : Fin 3 → Nat :=
  let v786 : Index := Scalar.indexCast v785
  let c0_523 : Index := 0#32
  let c0_524 : Index := 0#32
  ![v786.toNat, 0, 0]

def k0_chk66 (v785 : BitVec 32) : Prop :=
  (∀ a, (k0_off132 v785) a + S1x96x384.size a ≤ S21x96x384.size a)
theorem k0_off132_inb : ∀ (v785 : BitVec 32) (k0_hw66 : k0_chk66 v785), ∀ a, (k0_off132 v785) a + S1x96x384.size a ≤ S21x96x384.size a := fun v785 k0_hw66 => k0_hw66

def k0_off133 (i : grid0.Coords) : Fin 2 → Nat :=
  let arg0 : BitVec 32 := BitVec.ofNat 32 (i 0).val
  let v796 : Index := Scalar.indexCast arg0
  let c66 : Index := 66#32
  ![v796.toNat, 66]
def k0_off134 (v797 : BitVec 32) : Fin 3 → Nat :=
  let v798 : Index := Scalar.indexCast v797
  let c0_531 : Index := 0#32
  let c0_532 : Index := 0#32
  ![v798.toNat, 0, 0]

def k0_chk67 (v797 : BitVec 32) : Prop :=
  (∀ a, (k0_off134 v797) a + S1x96x384.size a ≤ S21x96x384.size a)
theorem k0_off134_inb : ∀ (v797 : BitVec 32) (k0_hw67 : k0_chk67 v797), ∀ a, (k0_off134 v797) a + S1x96x384.size a ≤ S21x96x384.size a := fun v797 k0_hw67 => k0_hw67

def k0_off135 (i : grid0.Coords) : Fin 2 → Nat :=
  let arg0 : BitVec 32 := BitVec.ofNat 32 (i 0).val
  let v808 : Index := Scalar.indexCast arg0
  let c67 : Index := 67#32
  ![v808.toNat, 67]
def k0_off136 (v809 : BitVec 32) : Fin 3 → Nat :=
  let v810 : Index := Scalar.indexCast v809
  let c0_539 : Index := 0#32
  let c0_540 : Index := 0#32
  ![v810.toNat, 0, 0]

def k0_chk68 (v809 : BitVec 32) : Prop :=
  (∀ a, (k0_off136 v809) a + S1x96x384.size a ≤ S21x96x384.size a)
theorem k0_off136_inb : ∀ (v809 : BitVec 32) (k0_hw68 : k0_chk68 v809), ∀ a, (k0_off136 v809) a + S1x96x384.size a ≤ S21x96x384.size a := fun v809 k0_hw68 => k0_hw68

def k0_off137 (i : grid0.Coords) : Fin 2 → Nat :=
  let arg0 : BitVec 32 := BitVec.ofNat 32 (i 0).val
  let v820 : Index := Scalar.indexCast arg0
  let c68 : Index := 68#32
  ![v820.toNat, 68]
def k0_off138 (v821 : BitVec 32) : Fin 3 → Nat :=
  let v822 : Index := Scalar.indexCast v821
  let c0_547 : Index := 0#32
  let c0_548 : Index := 0#32
  ![v822.toNat, 0, 0]

def k0_chk69 (v821 : BitVec 32) : Prop :=
  (∀ a, (k0_off138 v821) a + S1x96x384.size a ≤ S21x96x384.size a)
theorem k0_off138_inb : ∀ (v821 : BitVec 32) (k0_hw69 : k0_chk69 v821), ∀ a, (k0_off138 v821) a + S1x96x384.size a ≤ S21x96x384.size a := fun v821 k0_hw69 => k0_hw69

def k0_off139 (i : grid0.Coords) : Fin 2 → Nat :=
  let arg0 : BitVec 32 := BitVec.ofNat 32 (i 0).val
  let v832 : Index := Scalar.indexCast arg0
  let c69 : Index := 69#32
  ![v832.toNat, 69]
def k0_off140 (v833 : BitVec 32) : Fin 3 → Nat :=
  let v834 : Index := Scalar.indexCast v833
  let c0_555 : Index := 0#32
  let c0_556 : Index := 0#32
  ![v834.toNat, 0, 0]

def k0_chk70 (v833 : BitVec 32) : Prop :=
  (∀ a, (k0_off140 v833) a + S1x96x384.size a ≤ S21x96x384.size a)
theorem k0_off140_inb : ∀ (v833 : BitVec 32) (k0_hw70 : k0_chk70 v833), ∀ a, (k0_off140 v833) a + S1x96x384.size a ≤ S21x96x384.size a := fun v833 k0_hw70 => k0_hw70

def k0_off141 (i : grid0.Coords) : Fin 2 → Nat :=
  let arg0 : BitVec 32 := BitVec.ofNat 32 (i 0).val
  let v844 : Index := Scalar.indexCast arg0
  let c70 : Index := 70#32
  ![v844.toNat, 70]
def k0_off142 (v845 : BitVec 32) : Fin 3 → Nat :=
  let v846 : Index := Scalar.indexCast v845
  let c0_563 : Index := 0#32
  let c0_564 : Index := 0#32
  ![v846.toNat, 0, 0]

def k0_chk71 (v845 : BitVec 32) : Prop :=
  (∀ a, (k0_off142 v845) a + S1x96x384.size a ≤ S21x96x384.size a)
theorem k0_off142_inb : ∀ (v845 : BitVec 32) (k0_hw71 : k0_chk71 v845), ∀ a, (k0_off142 v845) a + S1x96x384.size a ≤ S21x96x384.size a := fun v845 k0_hw71 => k0_hw71

def k0_off143 (i : grid0.Coords) : Fin 2 → Nat :=
  let arg0 : BitVec 32 := BitVec.ofNat 32 (i 0).val
  let v856 : Index := Scalar.indexCast arg0
  let c71 : Index := 71#32
  ![v856.toNat, 71]
def k0_off144 (v857 : BitVec 32) : Fin 3 → Nat :=
  let v858 : Index := Scalar.indexCast v857
  let c0_571 : Index := 0#32
  let c0_572 : Index := 0#32
  ![v858.toNat, 0, 0]

def k0_chk72 (v857 : BitVec 32) : Prop :=
  (∀ a, (k0_off144 v857) a + S1x96x384.size a ≤ S21x96x384.size a)
theorem k0_off144_inb : ∀ (v857 : BitVec 32) (k0_hw72 : k0_chk72 v857), ∀ a, (k0_off144 v857) a + S1x96x384.size a ≤ S21x96x384.size a := fun v857 k0_hw72 => k0_hw72

def k0_off145 (i : grid0.Coords) : Fin 2 → Nat :=
  let arg0 : BitVec 32 := BitVec.ofNat 32 (i 0).val
  let v868 : Index := Scalar.indexCast arg0
  let c72 : Index := 72#32
  ![v868.toNat, 72]
def k0_off146 (v869 : BitVec 32) : Fin 3 → Nat :=
  let v870 : Index := Scalar.indexCast v869
  let c0_579 : Index := 0#32
  let c0_580 : Index := 0#32
  ![v870.toNat, 0, 0]

def k0_chk73 (v869 : BitVec 32) : Prop :=
  (∀ a, (k0_off146 v869) a + S1x96x384.size a ≤ S21x96x384.size a)
theorem k0_off146_inb : ∀ (v869 : BitVec 32) (k0_hw73 : k0_chk73 v869), ∀ a, (k0_off146 v869) a + S1x96x384.size a ≤ S21x96x384.size a := fun v869 k0_hw73 => k0_hw73

def k0_off147 (i : grid0.Coords) : Fin 2 → Nat :=
  let arg0 : BitVec 32 := BitVec.ofNat 32 (i 0).val
  let v880 : Index := Scalar.indexCast arg0
  let c73 : Index := 73#32
  ![v880.toNat, 73]
def k0_off148 (v881 : BitVec 32) : Fin 3 → Nat :=
  let v882 : Index := Scalar.indexCast v881
  let c0_587 : Index := 0#32
  let c0_588 : Index := 0#32
  ![v882.toNat, 0, 0]

def k0_chk74 (v881 : BitVec 32) : Prop :=
  (∀ a, (k0_off148 v881) a + S1x96x384.size a ≤ S21x96x384.size a)
theorem k0_off148_inb : ∀ (v881 : BitVec 32) (k0_hw74 : k0_chk74 v881), ∀ a, (k0_off148 v881) a + S1x96x384.size a ≤ S21x96x384.size a := fun v881 k0_hw74 => k0_hw74

def k0_off149 (i : grid0.Coords) : Fin 2 → Nat :=
  let arg0 : BitVec 32 := BitVec.ofNat 32 (i 0).val
  let v892 : Index := Scalar.indexCast arg0
  let c74 : Index := 74#32
  ![v892.toNat, 74]
def k0_off150 (v893 : BitVec 32) : Fin 3 → Nat :=
  let v894 : Index := Scalar.indexCast v893
  let c0_595 : Index := 0#32
  let c0_596 : Index := 0#32
  ![v894.toNat, 0, 0]

def k0_chk75 (v893 : BitVec 32) : Prop :=
  (∀ a, (k0_off150 v893) a + S1x96x384.size a ≤ S21x96x384.size a)
theorem k0_off150_inb : ∀ (v893 : BitVec 32) (k0_hw75 : k0_chk75 v893), ∀ a, (k0_off150 v893) a + S1x96x384.size a ≤ S21x96x384.size a := fun v893 k0_hw75 => k0_hw75

def k0_off151 (i : grid0.Coords) : Fin 2 → Nat :=
  let arg0 : BitVec 32 := BitVec.ofNat 32 (i 0).val
  let v904 : Index := Scalar.indexCast arg0
  let c75 : Index := 75#32
  ![v904.toNat, 75]
def k0_off152 (v905 : BitVec 32) : Fin 3 → Nat :=
  let v906 : Index := Scalar.indexCast v905
  let c0_603 : Index := 0#32
  let c0_604 : Index := 0#32
  ![v906.toNat, 0, 0]

def k0_chk76 (v905 : BitVec 32) : Prop :=
  (∀ a, (k0_off152 v905) a + S1x96x384.size a ≤ S21x96x384.size a)
theorem k0_off152_inb : ∀ (v905 : BitVec 32) (k0_hw76 : k0_chk76 v905), ∀ a, (k0_off152 v905) a + S1x96x384.size a ≤ S21x96x384.size a := fun v905 k0_hw76 => k0_hw76

def k0_off153 (i : grid0.Coords) : Fin 2 → Nat :=
  let arg0 : BitVec 32 := BitVec.ofNat 32 (i 0).val
  let v916 : Index := Scalar.indexCast arg0
  let c76 : Index := 76#32
  ![v916.toNat, 76]
def k0_off154 (v917 : BitVec 32) : Fin 3 → Nat :=
  let v918 : Index := Scalar.indexCast v917
  let c0_611 : Index := 0#32
  let c0_612 : Index := 0#32
  ![v918.toNat, 0, 0]

def k0_chk77 (v917 : BitVec 32) : Prop :=
  (∀ a, (k0_off154 v917) a + S1x96x384.size a ≤ S21x96x384.size a)
theorem k0_off154_inb : ∀ (v917 : BitVec 32) (k0_hw77 : k0_chk77 v917), ∀ a, (k0_off154 v917) a + S1x96x384.size a ≤ S21x96x384.size a := fun v917 k0_hw77 => k0_hw77

def k0_off155 (i : grid0.Coords) : Fin 2 → Nat :=
  let arg0 : BitVec 32 := BitVec.ofNat 32 (i 0).val
  let v928 : Index := Scalar.indexCast arg0
  let c77 : Index := 77#32
  ![v928.toNat, 77]
def k0_off156 (v929 : BitVec 32) : Fin 3 → Nat :=
  let v930 : Index := Scalar.indexCast v929
  let c0_619 : Index := 0#32
  let c0_620 : Index := 0#32
  ![v930.toNat, 0, 0]

def k0_chk78 (v929 : BitVec 32) : Prop :=
  (∀ a, (k0_off156 v929) a + S1x96x384.size a ≤ S21x96x384.size a)
theorem k0_off156_inb : ∀ (v929 : BitVec 32) (k0_hw78 : k0_chk78 v929), ∀ a, (k0_off156 v929) a + S1x96x384.size a ≤ S21x96x384.size a := fun v929 k0_hw78 => k0_hw78

def k0_off157 (i : grid0.Coords) : Fin 2 → Nat :=
  let arg0 : BitVec 32 := BitVec.ofNat 32 (i 0).val
  let v940 : Index := Scalar.indexCast arg0
  let c78 : Index := 78#32
  ![v940.toNat, 78]
def k0_off158 (v941 : BitVec 32) : Fin 3 → Nat :=
  let v942 : Index := Scalar.indexCast v941
  let c0_627 : Index := 0#32
  let c0_628 : Index := 0#32
  ![v942.toNat, 0, 0]

def k0_chk79 (v941 : BitVec 32) : Prop :=
  (∀ a, (k0_off158 v941) a + S1x96x384.size a ≤ S21x96x384.size a)
theorem k0_off158_inb : ∀ (v941 : BitVec 32) (k0_hw79 : k0_chk79 v941), ∀ a, (k0_off158 v941) a + S1x96x384.size a ≤ S21x96x384.size a := fun v941 k0_hw79 => k0_hw79

def k0_off159 (i : grid0.Coords) : Fin 2 → Nat :=
  let arg0 : BitVec 32 := BitVec.ofNat 32 (i 0).val
  let v952 : Index := Scalar.indexCast arg0
  let c79 : Index := 79#32
  ![v952.toNat, 79]
def k0_off160 (v953 : BitVec 32) : Fin 3 → Nat :=
  let v954 : Index := Scalar.indexCast v953
  let c0_635 : Index := 0#32
  let c0_636 : Index := 0#32
  ![v954.toNat, 0, 0]

def k0_chk80 (v953 : BitVec 32) : Prop :=
  (∀ a, (k0_off160 v953) a + S1x96x384.size a ≤ S21x96x384.size a)
theorem k0_off160_inb : ∀ (v953 : BitVec 32) (k0_hw80 : k0_chk80 v953), ∀ a, (k0_off160 v953) a + S1x96x384.size a ≤ S21x96x384.size a := fun v953 k0_hw80 => k0_hw80

def k0_off161 (i : grid0.Coords) : Fin 2 → Nat :=
  let arg0 : BitVec 32 := BitVec.ofNat 32 (i 0).val
  let v964 : Index := Scalar.indexCast arg0
  let c80 : Index := 80#32
  ![v964.toNat, 80]
def k0_off162 (v965 : BitVec 32) : Fin 3 → Nat :=
  let v966 : Index := Scalar.indexCast v965
  let c0_643 : Index := 0#32
  let c0_644 : Index := 0#32
  ![v966.toNat, 0, 0]

def k0_chk81 (v965 : BitVec 32) : Prop :=
  (∀ a, (k0_off162 v965) a + S1x96x384.size a ≤ S21x96x384.size a)
theorem k0_off162_inb : ∀ (v965 : BitVec 32) (k0_hw81 : k0_chk81 v965), ∀ a, (k0_off162 v965) a + S1x96x384.size a ≤ S21x96x384.size a := fun v965 k0_hw81 => k0_hw81

def k0_off163 (i : grid0.Coords) : Fin 2 → Nat :=
  let arg0 : BitVec 32 := BitVec.ofNat 32 (i 0).val
  let v976 : Index := Scalar.indexCast arg0
  let c81 : Index := 81#32
  ![v976.toNat, 81]
def k0_off164 (v977 : BitVec 32) : Fin 3 → Nat :=
  let v978 : Index := Scalar.indexCast v977
  let c0_651 : Index := 0#32
  let c0_652 : Index := 0#32
  ![v978.toNat, 0, 0]

def k0_chk82 (v977 : BitVec 32) : Prop :=
  (∀ a, (k0_off164 v977) a + S1x96x384.size a ≤ S21x96x384.size a)
theorem k0_off164_inb : ∀ (v977 : BitVec 32) (k0_hw82 : k0_chk82 v977), ∀ a, (k0_off164 v977) a + S1x96x384.size a ≤ S21x96x384.size a := fun v977 k0_hw82 => k0_hw82

def k0_off165 (i : grid0.Coords) : Fin 2 → Nat :=
  let arg0 : BitVec 32 := BitVec.ofNat 32 (i 0).val
  let v988 : Index := Scalar.indexCast arg0
  let c82 : Index := 82#32
  ![v988.toNat, 82]
def k0_off166 (v989 : BitVec 32) : Fin 3 → Nat :=
  let v990 : Index := Scalar.indexCast v989
  let c0_659 : Index := 0#32
  let c0_660 : Index := 0#32
  ![v990.toNat, 0, 0]

def k0_chk83 (v989 : BitVec 32) : Prop :=
  (∀ a, (k0_off166 v989) a + S1x96x384.size a ≤ S21x96x384.size a)
theorem k0_off166_inb : ∀ (v989 : BitVec 32) (k0_hw83 : k0_chk83 v989), ∀ a, (k0_off166 v989) a + S1x96x384.size a ≤ S21x96x384.size a := fun v989 k0_hw83 => k0_hw83

def k0_off167 (i : grid0.Coords) : Fin 2 → Nat :=
  let arg0 : BitVec 32 := BitVec.ofNat 32 (i 0).val
  let v1000 : Index := Scalar.indexCast arg0
  let c83 : Index := 83#32
  ![v1000.toNat, 83]
def k0_off168 (v1001 : BitVec 32) : Fin 3 → Nat :=
  let v1002 : Index := Scalar.indexCast v1001
  let c0_667 : Index := 0#32
  let c0_668 : Index := 0#32
  ![v1002.toNat, 0, 0]

def k0_chk84 (v1001 : BitVec 32) : Prop :=
  (∀ a, (k0_off168 v1001) a + S1x96x384.size a ≤ S21x96x384.size a)
theorem k0_off168_inb : ∀ (v1001 : BitVec 32) (k0_hw84 : k0_chk84 v1001), ∀ a, (k0_off168 v1001) a + S1x96x384.size a ≤ S21x96x384.size a := fun v1001 k0_hw84 => k0_hw84

def k0_off169 (i : grid0.Coords) : Fin 2 → Nat :=
  let arg0 : BitVec 32 := BitVec.ofNat 32 (i 0).val
  let v1012 : Index := Scalar.indexCast arg0
  let c84 : Index := 84#32
  ![v1012.toNat, 84]
def k0_off170 (v1013 : BitVec 32) : Fin 3 → Nat :=
  let v1014 : Index := Scalar.indexCast v1013
  let c0_675 : Index := 0#32
  let c0_676 : Index := 0#32
  ![v1014.toNat, 0, 0]

def k0_chk85 (v1013 : BitVec 32) : Prop :=
  (∀ a, (k0_off170 v1013) a + S1x96x384.size a ≤ S21x96x384.size a)
theorem k0_off170_inb : ∀ (v1013 : BitVec 32) (k0_hw85 : k0_chk85 v1013), ∀ a, (k0_off170 v1013) a + S1x96x384.size a ≤ S21x96x384.size a := fun v1013 k0_hw85 => k0_hw85

def k0_off171 (i : grid0.Coords) : Fin 2 → Nat :=
  let arg0 : BitVec 32 := BitVec.ofNat 32 (i 0).val
  let v1024 : Index := Scalar.indexCast arg0
  let c85 : Index := 85#32
  ![v1024.toNat, 85]
def k0_off172 (v1025 : BitVec 32) : Fin 3 → Nat :=
  let v1026 : Index := Scalar.indexCast v1025
  let c0_683 : Index := 0#32
  let c0_684 : Index := 0#32
  ![v1026.toNat, 0, 0]

def k0_chk86 (v1025 : BitVec 32) : Prop :=
  (∀ a, (k0_off172 v1025) a + S1x96x384.size a ≤ S21x96x384.size a)
theorem k0_off172_inb : ∀ (v1025 : BitVec 32) (k0_hw86 : k0_chk86 v1025), ∀ a, (k0_off172 v1025) a + S1x96x384.size a ≤ S21x96x384.size a := fun v1025 k0_hw86 => k0_hw86

def k0_off173 (i : grid0.Coords) : Fin 2 → Nat :=
  let arg0 : BitVec 32 := BitVec.ofNat 32 (i 0).val
  let v1036 : Index := Scalar.indexCast arg0
  let c86 : Index := 86#32
  ![v1036.toNat, 86]
def k0_off174 (v1037 : BitVec 32) : Fin 3 → Nat :=
  let v1038 : Index := Scalar.indexCast v1037
  let c0_691 : Index := 0#32
  let c0_692 : Index := 0#32
  ![v1038.toNat, 0, 0]

def k0_chk87 (v1037 : BitVec 32) : Prop :=
  (∀ a, (k0_off174 v1037) a + S1x96x384.size a ≤ S21x96x384.size a)
theorem k0_off174_inb : ∀ (v1037 : BitVec 32) (k0_hw87 : k0_chk87 v1037), ∀ a, (k0_off174 v1037) a + S1x96x384.size a ≤ S21x96x384.size a := fun v1037 k0_hw87 => k0_hw87

def k0_off175 (i : grid0.Coords) : Fin 2 → Nat :=
  let arg0 : BitVec 32 := BitVec.ofNat 32 (i 0).val
  let v1048 : Index := Scalar.indexCast arg0
  let c87 : Index := 87#32
  ![v1048.toNat, 87]
def k0_off176 (v1049 : BitVec 32) : Fin 3 → Nat :=
  let v1050 : Index := Scalar.indexCast v1049
  let c0_699 : Index := 0#32
  let c0_700 : Index := 0#32
  ![v1050.toNat, 0, 0]

def k0_chk88 (v1049 : BitVec 32) : Prop :=
  (∀ a, (k0_off176 v1049) a + S1x96x384.size a ≤ S21x96x384.size a)
theorem k0_off176_inb : ∀ (v1049 : BitVec 32) (k0_hw88 : k0_chk88 v1049), ∀ a, (k0_off176 v1049) a + S1x96x384.size a ≤ S21x96x384.size a := fun v1049 k0_hw88 => k0_hw88

def k0_off177 (i : grid0.Coords) : Fin 2 → Nat :=
  let arg0 : BitVec 32 := BitVec.ofNat 32 (i 0).val
  let v1060 : Index := Scalar.indexCast arg0
  let c88 : Index := 88#32
  ![v1060.toNat, 88]
def k0_off178 (v1061 : BitVec 32) : Fin 3 → Nat :=
  let v1062 : Index := Scalar.indexCast v1061
  let c0_707 : Index := 0#32
  let c0_708 : Index := 0#32
  ![v1062.toNat, 0, 0]

def k0_chk89 (v1061 : BitVec 32) : Prop :=
  (∀ a, (k0_off178 v1061) a + S1x96x384.size a ≤ S21x96x384.size a)
theorem k0_off178_inb : ∀ (v1061 : BitVec 32) (k0_hw89 : k0_chk89 v1061), ∀ a, (k0_off178 v1061) a + S1x96x384.size a ≤ S21x96x384.size a := fun v1061 k0_hw89 => k0_hw89

def k0_off179 (i : grid0.Coords) : Fin 2 → Nat :=
  let arg0 : BitVec 32 := BitVec.ofNat 32 (i 0).val
  let v1072 : Index := Scalar.indexCast arg0
  let c89 : Index := 89#32
  ![v1072.toNat, 89]
def k0_off180 (v1073 : BitVec 32) : Fin 3 → Nat :=
  let v1074 : Index := Scalar.indexCast v1073
  let c0_715 : Index := 0#32
  let c0_716 : Index := 0#32
  ![v1074.toNat, 0, 0]

def k0_chk90 (v1073 : BitVec 32) : Prop :=
  (∀ a, (k0_off180 v1073) a + S1x96x384.size a ≤ S21x96x384.size a)
theorem k0_off180_inb : ∀ (v1073 : BitVec 32) (k0_hw90 : k0_chk90 v1073), ∀ a, (k0_off180 v1073) a + S1x96x384.size a ≤ S21x96x384.size a := fun v1073 k0_hw90 => k0_hw90

def k0_off181 (i : grid0.Coords) : Fin 2 → Nat :=
  let arg0 : BitVec 32 := BitVec.ofNat 32 (i 0).val
  let v1084 : Index := Scalar.indexCast arg0
  let c90 : Index := 90#32
  ![v1084.toNat, 90]
def k0_off182 (v1085 : BitVec 32) : Fin 3 → Nat :=
  let v1086 : Index := Scalar.indexCast v1085
  let c0_723 : Index := 0#32
  let c0_724 : Index := 0#32
  ![v1086.toNat, 0, 0]

def k0_chk91 (v1085 : BitVec 32) : Prop :=
  (∀ a, (k0_off182 v1085) a + S1x96x384.size a ≤ S21x96x384.size a)
theorem k0_off182_inb : ∀ (v1085 : BitVec 32) (k0_hw91 : k0_chk91 v1085), ∀ a, (k0_off182 v1085) a + S1x96x384.size a ≤ S21x96x384.size a := fun v1085 k0_hw91 => k0_hw91

def k0_off183 (i : grid0.Coords) : Fin 2 → Nat :=
  let arg0 : BitVec 32 := BitVec.ofNat 32 (i 0).val
  let v1096 : Index := Scalar.indexCast arg0
  let c91 : Index := 91#32
  ![v1096.toNat, 91]
def k0_off184 (v1097 : BitVec 32) : Fin 3 → Nat :=
  let v1098 : Index := Scalar.indexCast v1097
  let c0_731 : Index := 0#32
  let c0_732 : Index := 0#32
  ![v1098.toNat, 0, 0]

def k0_chk92 (v1097 : BitVec 32) : Prop :=
  (∀ a, (k0_off184 v1097) a + S1x96x384.size a ≤ S21x96x384.size a)
theorem k0_off184_inb : ∀ (v1097 : BitVec 32) (k0_hw92 : k0_chk92 v1097), ∀ a, (k0_off184 v1097) a + S1x96x384.size a ≤ S21x96x384.size a := fun v1097 k0_hw92 => k0_hw92

def k0_off185 (i : grid0.Coords) : Fin 2 → Nat :=
  let arg0 : BitVec 32 := BitVec.ofNat 32 (i 0).val
  let v1108 : Index := Scalar.indexCast arg0
  let c92 : Index := 92#32
  ![v1108.toNat, 92]
def k0_off186 (v1109 : BitVec 32) : Fin 3 → Nat :=
  let v1110 : Index := Scalar.indexCast v1109
  let c0_739 : Index := 0#32
  let c0_740 : Index := 0#32
  ![v1110.toNat, 0, 0]

def k0_chk93 (v1109 : BitVec 32) : Prop :=
  (∀ a, (k0_off186 v1109) a + S1x96x384.size a ≤ S21x96x384.size a)
theorem k0_off186_inb : ∀ (v1109 : BitVec 32) (k0_hw93 : k0_chk93 v1109), ∀ a, (k0_off186 v1109) a + S1x96x384.size a ≤ S21x96x384.size a := fun v1109 k0_hw93 => k0_hw93

def k0_off187 (i : grid0.Coords) : Fin 2 → Nat :=
  let arg0 : BitVec 32 := BitVec.ofNat 32 (i 0).val
  let v1120 : Index := Scalar.indexCast arg0
  let c93 : Index := 93#32
  ![v1120.toNat, 93]
def k0_off188 (v1121 : BitVec 32) : Fin 3 → Nat :=
  let v1122 : Index := Scalar.indexCast v1121
  let c0_747 : Index := 0#32
  let c0_748 : Index := 0#32
  ![v1122.toNat, 0, 0]

def k0_chk94 (v1121 : BitVec 32) : Prop :=
  (∀ a, (k0_off188 v1121) a + S1x96x384.size a ≤ S21x96x384.size a)
theorem k0_off188_inb : ∀ (v1121 : BitVec 32) (k0_hw94 : k0_chk94 v1121), ∀ a, (k0_off188 v1121) a + S1x96x384.size a ≤ S21x96x384.size a := fun v1121 k0_hw94 => k0_hw94

def k0_off189 (i : grid0.Coords) : Fin 2 → Nat :=
  let arg0 : BitVec 32 := BitVec.ofNat 32 (i 0).val
  let v1132 : Index := Scalar.indexCast arg0
  let c94 : Index := 94#32
  ![v1132.toNat, 94]
def k0_off190 (v1133 : BitVec 32) : Fin 3 → Nat :=
  let v1134 : Index := Scalar.indexCast v1133
  let c0_755 : Index := 0#32
  let c0_756 : Index := 0#32
  ![v1134.toNat, 0, 0]

def k0_chk95 (v1133 : BitVec 32) : Prop :=
  (∀ a, (k0_off190 v1133) a + S1x96x384.size a ≤ S21x96x384.size a)
theorem k0_off190_inb : ∀ (v1133 : BitVec 32) (k0_hw95 : k0_chk95 v1133), ∀ a, (k0_off190 v1133) a + S1x96x384.size a ≤ S21x96x384.size a := fun v1133 k0_hw95 => k0_hw95

def k0_off191 (i : grid0.Coords) : Fin 2 → Nat :=
  let arg0 : BitVec 32 := BitVec.ofNat 32 (i 0).val
  let v1144 : Index := Scalar.indexCast arg0
  let c95 : Index := 95#32
  ![v1144.toNat, 95]
def k0_off192 (v1145 : BitVec 32) : Fin 3 → Nat :=
  let v1146 : Index := Scalar.indexCast v1145
  let c0_763 : Index := 0#32
  let c0_764 : Index := 0#32
  ![v1146.toNat, 0, 0]

def k0_chk96 (v1145 : BitVec 32) : Prop :=
  (∀ a, (k0_off192 v1145) a + S1x96x384.size a ≤ S21x96x384.size a)
theorem k0_off192_inb : ∀ (v1145 : BitVec 32) (k0_hw96 : k0_chk96 v1145), ∀ a, (k0_off192 v1145) a + S1x96x384.size a ≤ S21x96x384.size a := fun v1145 k0_hw96 => k0_hw96

def k0_off193 (i : grid0.Coords) : Fin 2 → Nat :=
  let arg0 : BitVec 32 := BitVec.ofNat 32 (i 0).val
  let v1156 : Index := Scalar.indexCast arg0
  let c96 : Index := 96#32
  ![v1156.toNat, 96]
def k0_off194 (v1157 : BitVec 32) : Fin 3 → Nat :=
  let v1158 : Index := Scalar.indexCast v1157
  let c0_771 : Index := 0#32
  let c0_772 : Index := 0#32
  ![v1158.toNat, 0, 0]

def k0_chk97 (v1157 : BitVec 32) : Prop :=
  (∀ a, (k0_off194 v1157) a + S1x96x384.size a ≤ S21x96x384.size a)
theorem k0_off194_inb : ∀ (v1157 : BitVec 32) (k0_hw97 : k0_chk97 v1157), ∀ a, (k0_off194 v1157) a + S1x96x384.size a ≤ S21x96x384.size a := fun v1157 k0_hw97 => k0_hw97

def k0_off195 (i : grid0.Coords) : Fin 2 → Nat :=
  let arg0 : BitVec 32 := BitVec.ofNat 32 (i 0).val
  let v1168 : Index := Scalar.indexCast arg0
  let c97 : Index := 97#32
  ![v1168.toNat, 97]
def k0_off196 (v1169 : BitVec 32) : Fin 3 → Nat :=
  let v1170 : Index := Scalar.indexCast v1169
  let c0_779 : Index := 0#32
  let c0_780 : Index := 0#32
  ![v1170.toNat, 0, 0]

def k0_chk98 (v1169 : BitVec 32) : Prop :=
  (∀ a, (k0_off196 v1169) a + S1x96x384.size a ≤ S21x96x384.size a)
theorem k0_off196_inb : ∀ (v1169 : BitVec 32) (k0_hw98 : k0_chk98 v1169), ∀ a, (k0_off196 v1169) a + S1x96x384.size a ≤ S21x96x384.size a := fun v1169 k0_hw98 => k0_hw98

def k0_off197 (i : grid0.Coords) : Fin 2 → Nat :=
  let arg0 : BitVec 32 := BitVec.ofNat 32 (i 0).val
  let v1180 : Index := Scalar.indexCast arg0
  let c98 : Index := 98#32
  ![v1180.toNat, 98]
def k0_off198 (v1181 : BitVec 32) : Fin 3 → Nat :=
  let v1182 : Index := Scalar.indexCast v1181
  let c0_787 : Index := 0#32
  let c0_788 : Index := 0#32
  ![v1182.toNat, 0, 0]

def k0_chk99 (v1181 : BitVec 32) : Prop :=
  (∀ a, (k0_off198 v1181) a + S1x96x384.size a ≤ S21x96x384.size a)
theorem k0_off198_inb : ∀ (v1181 : BitVec 32) (k0_hw99 : k0_chk99 v1181), ∀ a, (k0_off198 v1181) a + S1x96x384.size a ≤ S21x96x384.size a := fun v1181 k0_hw99 => k0_hw99

def k0_off199 (i : grid0.Coords) : Fin 2 → Nat :=
  let arg0 : BitVec 32 := BitVec.ofNat 32 (i 0).val
  let v1192 : Index := Scalar.indexCast arg0
  let c99 : Index := 99#32
  ![v1192.toNat, 99]
def k0_off200 (v1193 : BitVec 32) : Fin 3 → Nat :=
  let v1194 : Index := Scalar.indexCast v1193
  let c0_795 : Index := 0#32
  let c0_796 : Index := 0#32
  ![v1194.toNat, 0, 0]

def k0_chk100 (v1193 : BitVec 32) : Prop :=
  (∀ a, (k0_off200 v1193) a + S1x96x384.size a ≤ S21x96x384.size a)
theorem k0_off200_inb : ∀ (v1193 : BitVec 32) (k0_hw100 : k0_chk100 v1193), ∀ a, (k0_off200 v1193) a + S1x96x384.size a ≤ S21x96x384.size a := fun v1193 k0_hw100 => k0_hw100

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S4x100 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S21x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x100x96x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x96x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x96x384 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x384x384x3 : Shape := ⟨4, ![4, 384, 384, 3]⟩
abbrev S4x100x6 : Shape := ⟨3, ![4, 100, 6]⟩
abbrev S4x100x384x384 : Shape := ⟨4, ![4, 100, 384, 384]⟩
abbrev S21x3 : Shape := ⟨2, ![21, 3]⟩
abbrev S4x100x1 : Shape := ⟨3, ![4, 100, 1]⟩
abbrev S4x100 : Shape := ⟨2, ![4, 100]⟩
abbrev S1x100x384x384 : Shape := ⟨4, ![1, 100, 384, 384]⟩
abbrev S100x384x384 : Shape := ⟨3, ![100, 384, 384]⟩
abbrev S1x100 : Shape := ⟨2, ![1, 100]⟩
abbrev S100 : Shape := ⟨1, ![100]⟩
abbrev S_ : Shape := ⟨0, ![]⟩
abbrev S21x384x384 : Shape := ⟨3, ![21, 384, 384]⟩
abbrev S100x1 : Shape := ⟨2, ![100, 1]⟩
abbrev S1x21x384x384 : Shape := ⟨4, ![1, 21, 384, 384]⟩
abbrev S4x21x384x384 : Shape := ⟨4, ![4, 21, 384, 384]⟩
abbrev S4x384x384x21 : Shape := ⟨4, ![4, 384, 384, 21]⟩
abbrev S4x384x384x21x1 : Shape := ⟨5, ![4, 384, 384, 21, 1]⟩
abbrev S1x1x1x21x3 : Shape := ⟨5, ![1, 1, 1, 21, 3]⟩
abbrev S4x384x384x21x3 : Shape := ⟨5, ![4, 384, 384, 21, 3]⟩

abbrev nBuf : Space → Nat
  | .hbm => 70
  | .vmem => 0
  | .smem => 0
  | _ => 0

abbrev bufTy : (tb : Table) → Fin (tcTables nBuf tb) → BufTy
  | .hbm, ⟨0, _⟩ => ⟨S4x384x384x3, .f32⟩
  | .hbm, ⟨1, _⟩ => ⟨S4x100x6, .f32⟩
  | .hbm, ⟨2, _⟩ => ⟨S4x100x384x384, .f32⟩
  | .hbm, ⟨3, _⟩ => ⟨S21x3, .f32⟩
  | .hbm, ⟨4, _⟩ => ⟨S4x100x1, .f32⟩
  | .hbm, ⟨5, _⟩ => ⟨S4x100, .f32⟩
  | .hbm, ⟨6, _⟩ => ⟨S4x100, .i32⟩
  | .hbm, ⟨7, _⟩ => ⟨S1x100x384x384, .f32⟩
  | .hbm, ⟨8, _⟩ => ⟨S100x384x384, .f32⟩
  | .hbm, ⟨9, _⟩ => ⟨S1x100x384x384, .f32⟩
  | .hbm, ⟨10, _⟩ => ⟨S100x384x384, .f32⟩
  | .hbm, ⟨11, _⟩ => ⟨S1x100x384x384, .f32⟩
  | .hbm, ⟨12, _⟩ => ⟨S100x384x384, .f32⟩
  | .hbm, ⟨13, _⟩ => ⟨S1x100x384x384, .f32⟩
  | .hbm, ⟨14, _⟩ => ⟨S100x384x384, .f32⟩
  | .hbm, ⟨15, _⟩ => ⟨S1x100, .i32⟩
  | .hbm, ⟨16, _⟩ => ⟨S100, .i32⟩
  | .hbm, ⟨17, _⟩ => ⟨S1x100, .i32⟩
  | .hbm, ⟨18, _⟩ => ⟨S100, .i32⟩
  | .hbm, ⟨19, _⟩ => ⟨S1x100, .i32⟩
  | .hbm, ⟨20, _⟩ => ⟨S100, .i32⟩
  | .hbm, ⟨21, _⟩ => ⟨S1x100, .i32⟩
  | .hbm, ⟨22, _⟩ => ⟨S100, .i32⟩
  | .hbm, ⟨23, _⟩ => ⟨S_, .f32⟩
  | .hbm, ⟨24, _⟩ => ⟨S21x384x384, .f32⟩
  | .hbm, ⟨25, _⟩ => ⟨S100x1, .i32⟩
  | .hbm, ⟨26, _⟩ => ⟨S21x384x384, .f32⟩
  | .hbm, ⟨27, _⟩ => ⟨S_, .f32⟩
  | .hbm, ⟨28, _⟩ => ⟨S21x384x384, .f32⟩
  | .hbm, ⟨29, _⟩ => ⟨S100x1, .i32⟩
  | .hbm, ⟨30, _⟩ => ⟨S21x384x384, .f32⟩
  | .hbm, ⟨31, _⟩ => ⟨S_, .f32⟩
  | .hbm, ⟨32, _⟩ => ⟨S21x384x384, .f32⟩
  | .hbm, ⟨33, _⟩ => ⟨S100x1, .i32⟩
  | .hbm, ⟨34, _⟩ => ⟨S21x384x384, .f32⟩
  | .hbm, ⟨35, _⟩ => ⟨S_, .f32⟩
  | .hbm, ⟨36, _⟩ => ⟨S21x384x384, .f32⟩
  | .hbm, ⟨37, _⟩ => ⟨S100x1, .i32⟩
  | .hbm, ⟨38, _⟩ => ⟨S21x384x384, .f32⟩
  | .hbm, ⟨39, _⟩ => ⟨S1x21x384x384, .f32⟩
  | .hbm, ⟨40, _⟩ => ⟨S1x21x384x384, .f32⟩
  | .hbm, ⟨41, _⟩ => ⟨S1x21x384x384, .f32⟩
  | .hbm, ⟨42, _⟩ => ⟨S1x21x384x384, .f32⟩
  | .hbm, ⟨43, _⟩ => ⟨S4x21x384x384, .f32⟩
  | .hbm, ⟨44, _⟩ => ⟨S_, .f32⟩
  | .hbm, ⟨45, _⟩ => ⟨S4x21x384x384, .f32⟩
  | .hbm, ⟨46, _⟩ => ⟨S4x21x384x384, .i1⟩
  | .hbm, ⟨47, _⟩ => ⟨S4x21x384x384, .f32⟩
  | .hbm, ⟨48, _⟩ => ⟨S4x384x384x21, .f32⟩
  | .hbm, ⟨49, _⟩ => ⟨S4x384x384x21x1, .f32⟩
  | .hbm, ⟨50, _⟩ => ⟨S1x1x1x21x3, .f32⟩
  | .hbm, ⟨51, _⟩ => ⟨S4x384x384x21x3, .f32⟩
  | .hbm, ⟨52, _⟩ => ⟨S4x384x384x21x3, .f32⟩
  | .hbm, ⟨53, _⟩ => ⟨S4x384x384x21x3, .f32⟩
  | .hbm, ⟨54, _⟩ => ⟨S_, .f32⟩
  | .hbm, ⟨55, _⟩ => ⟨S4x384x384x3, .f32⟩
  | .hbm, ⟨56, _⟩ => ⟨S_, .f32⟩
  | .hbm, ⟨57, _⟩ => ⟨S4x384x384x3, .f32⟩
  | .hbm, ⟨58, _⟩ => ⟨S4x384x384x3, .f32⟩
  | .hbm, ⟨59, _⟩ => ⟨S4x384x384x3, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4x384x384x3, .f32⟩
  | .hbm, ⟨64, _⟩ => ⟨S4x384x384x3, .f32⟩
  | .hbm, ⟨65, _⟩ => ⟨S_, .f32⟩
  | .hbm, ⟨66, _⟩ => ⟨S4x384x384x3, .f32⟩
  | .hbm, ⟨67, _⟩ => ⟨S4x384x384x3, .f32⟩
  | .hbm, ⟨68, _⟩ => ⟨S4x384x384x3, .i32⟩
  | .hbm, ⟨69, _⟩ => ⟨S4x384x384x3, .i8⟩
  | _, _ => ⟨S4x384x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.Body.lean ====
/- The kernel's body written once per kind of step: the hundred binning steps as one recursion over the mask's number, the
   three channels' twenty-one colour steps as one recursion over the class. The printed body is this one by unfolding alone. -/
module

public import proofs.«01_k».proof.Proof.Gen.KernelIdeal
public import Idealize.ShloMosaic.Lib.Pipeline.Regions

@[expose] public section

noncomputable section

namespace Cert.KernelIdeal.Body

open Idealize.ShloMosaic Idealize.SL.Sem
open Facts₀ Facts

variable {F : FTy → Type} [FloatOps F] [Facts]

/-- A program of the kernel's body. -/
abbrev Code (F : FTy → Type) : Type → Type 1 := Prog (TpuEff nD τ sig (Elt F) Λ₀ .tc)

/-- The batch row of a grid point, as the kernel computes it. -/
abbrev row (i : grid0.Coords) : Nat := (Scalar.indexCast (BitVec.ofNat 32 (i 0).val)).toNat

/-- The batch row is the point's first coordinate. -/
theorem row_eq (i : grid0.Coords) : row i = (i 0).val := by
  have h : (i 0).val < 4 := (i 0).isLt
  show (Scalar.indexCast (BitVec.ofNat 32 (i 0).val)).toNat = (i 0).val
  revert h
  generalize (i 0).val = n
  revert n
  decide

/-- The word of mask `n`'s class lies in the class table. -/
theorem inb_cid (i : grid0.Coords) (n : Nat) (h : n < 100) :
    ∀ a, (![row i, n] : Fin 2 → Nat) a + S1x1.size a ≤ S4x100.size a := by
  have hr : row i < 4 := (row_eq i).trans_lt (i 0).isLt
  intro a
  match a with
  | ⟨0, _⟩ => exact hr
  | ⟨1, _⟩ => exact h

/-- Mask `n` lies in the masks' block. -/
theorem inb_mask (n : Nat) (h : n < 100) :
    ∀ a, (![0, n, 0, 0] : Fin 4 → Nat) a + S1x1x96x384.size a ≤ S1x100x96x384.size a := by
  intro a
  match a with
  | ⟨0, _⟩ => exact Nat.le_refl _
  | ⟨1, _⟩ => exact h
  | ⟨2, _⟩ => exact Nat.le_refl _
  | ⟨3, _⟩ => exact Nat.le_refl _

/-- The colour of class `c` on channel `k` lies in the colour table. -/
theorem inb_colour (c k : Nat) (hc : c < 21) (hk : k < 3) :
    ∀ a, (![c, k] : Fin 2 → Nat) a + S1x1.size a ≤ S21x3.size a := by
  intro a
  match a with
  | ⟨0, _⟩ => exact hc
  | ⟨1, _⟩ => exact hk

/-- Class `c`'s plane is a slice of the accumulator. -/
theorem slices_plane (c : Nat) (hc : c < 21) : S21x96x384.Slices ![c, 0, 0] S1x96x384 :=
  ⟨rfl, fun a => match a with
    | ⟨0, _⟩ => hc
    | ⟨1, _⟩ => Nat.le_refl _
    | ⟨2, _⟩ => Nat.le_refl _⟩

/-- Channel `k`'s plane lies in a block of three. -/
theorem inb_channel (k : Nat) (hk : k < 3) :
    ∀ a, (![0, k, 0, 0] : Fin 4 → Nat) a + S1x1x96x384.size a ≤ S1x3x96x384.size a := by
  intro a
  match a with
  | ⟨0, _⟩ => exact Nat.le_refl _
  | ⟨1, _⟩ => exact hk
  | ⟨2, _⟩ => exact Nat.le_refl _
  | ⟨3, _⟩ => exact Nat.le_refl _

/-- Channel `k`'s plane of bytes is whole rows of words. -/
theorem packed_channel (k : Nat) (hk : k < 3) :
    (Rect.unit (s := S1x3x96x384) ![0, k, 0, 0] S1x1x96x384.size (inb_channel k hk)).PackedRows (EltTy.packing .i8) := by
  match k, hk with
  | 0, _ => exact packedi8_S1x3x96x384_S1x1x96x384_0_0_0_0
  | 1, _ => exact packedi8_S1x3x96x384_S1x1x96x384_0_1_0_0
  | 2, _ => exact packedi8_S1x3x96x384_S1x1x96x384_0_2_0_0
  | _ + 3, h => exact absurd h (by omega)

variable (i : grid0.Coords) (arg2 : Memref sig .tc .smem S4x100 .i32) (arg3 : Memref sig .tc .smem S21x3 .f32)
  (arg4 : Memref sig .tc .vmem S1x100x96x384 .f32) (arg5 : Memref sig .tc .vmem S1x3x96x384 .f32)
  (arg6 : Memref sig .tc .vmem S1x3x96x384 .i8) (harg6 : arg6.IsWhole) (arg7 : Memref sig .tc .vmem S21x96x384 .f32)

/-- The accumulator cleared. -/
def clear : Code F PUnit := do
  let _ ← Prog.lift (.load arg7 (Rect.unit (s := S21x96x384) ![0, 0, 0] S21x96x384.size inb_S21x96x384_S21x96x384_0_0_0).toLoadRect (View.loadsAt_vmem h_S21x96x384))
  Prog.lift (.store arg7 (Rect.unit (s := S21x96x384) ![0, 0, 0] S21x96x384.size inb_S21x96x384_S21x96x384_0_0_0) (shapeCast S21x96x384 (broadcast S21x96x384 (Scalar.ofBits .f32 0x00000000#32 : F .f32)) shapeCasts_S21x96x384_S21x96x384) Finset.univ (View.stores_vmem_bits_univ h_S21x96x384 rfl) (.inl rfl))

/-- A plane of the accumulator with a mask added. -/
def addMask (a : Vec F S1x96x384 .f32) (x : Vec F S1x1x96x384 .f32) : FVec F S1x96x384 .f32 :=
  shapeCast S1x96x384 (addf a (shapeCast S1x96x384 (shapeCast S96x384 x shapeCasts_S1x1x96x384_S96x384) shapeCasts_S96x384_S1x96x384)) shapeCasts_S1x96x384_S1x96x384

/-- Mask `n` added to its class's plane. -/
def binStep (n : Nat) (h : n < 100) : Code F PUnit := do
  let w : Elt F .i32 ← smemLoad arg2 (Rect.unit (s := S4x100) ![row i, n] S1x1.size (inb_cid i n h)) numel1_S1x1 rfl
  have hw : k0_chk1 w := (← Prog.lift (TpuEff.assume (k0_chk1 w) (k0_chk1.dec w))).down
  let a : Vec F S1x96x384 .f32 ← Prog.lift (.load arg7 (Rect.unit (s := S21x96x384) (k0_off2 w) S1x96x384.size (k0_off2_inb w hw)).toLoadRect (View.loadsAt_vmem h_S1x96x384))
  let x : Vec F S1x1x96x384 .f32 ← Prog.lift (.load arg4 (Rect.unit (s := S1x100x96x384) ![0, n, 0, 0] S1x1x96x384.size (inb_mask n h)).toLoadRect (View.loadsAt_vmem h_S1x1x96x384))
  let _ ← Prog.lift (.load arg7 (Rect.unit (s := S21x96x384) (k0_off2 w) S1x96x384.size (k0_off2_inb w hw)).toLoadRect (View.loadsAt_vmem h_S1x96x384))
  Prog.lift (.store arg7 (Rect.unit (s := S21x96x384) (k0_off2 w) S1x96x384.size (k0_off2_inb w hw)) (addMask a x) Finset.univ (View.stores_vmem_bits_univ h_S1x96x384 rfl) (.inl rfl))

/-- `k` masks binned, from mask `n` on. -/
def bins : (k n : Nat) → n + k ≤ 100 → Code F PUnit
  | 0, _, _ => pure ⟨⟩
  | k + 1, n, h => do
    binStep i arg2 arg4 arg7 n (by omega)
    bins k (n + 1) (by omega)

/-- The colour sum with class `c`'s colour added where the class is present. -/
def addColour (p : IVec S21x96x384 1) (c : Nat) (hc : c < 21) (u : F .f32) (s : FVec F S96x384 .f32) : FVec F S96x384 .f32 :=
  addf s (select (shapeCast S96x384 (extractStridedSlice S1x96x384 ![c, 0, 0] p (slices_plane c hc)) shapeCasts_S1x96x384_S96x384)
    (broadcast S96x384 u) (broadcast S96x384 (Scalar.ofBits .f32 0x00000000#32 : F .f32)))

/-- Channel `k`'s colour sum over `j` classes, from class `c` on. -/
def colours (p : IVec S21x96x384 1) (k : Nat) (hk : k < 3) :
    (j c : Nat) → c + j ≤ 21 → FVec F S96x384 .f32 → Code F (FVec F S96x384 .f32)
  | 0, _, _, s => pure s
  | j + 1, c, h, s => do
    let u : Elt F .f32 ← smemLoad arg3 (Rect.unit (s := S21x3) ![c, k] S1x1.size (inb_colour c k (by omega) hk)) numel1_S1x1 rfl
    colours p k hk j (c + 1) (by omega) (addColour p c (by omega) u s)

/-- A channel's bytes from its plane of the image and its colour sum. -/
def toBytes (x : Vec F S1x1x96x384 .f32) (s : FVec F S96x384 .f32) : IVec S1x1x96x384 8 :=
  shapeCast S1x1x96x384 (fptoui 8 (minimumf (broadcast S96x384 (Scalar.ofBits .f32 0x437F0000#32 : F .f32))
    (maximumf (broadcast S96x384 (Scalar.ofBits .f32 0x00000000#32 : F .f32))
      (addf (shapeCast S96x384 x shapeCasts_S1x1x96x384_S96x384)
        (mulf s (broadcast S96x384 (Scalar.ofBits .f32 0x3E99999A#32 : F .f32))))))) shapeCasts_S96x384_S1x1x96x384

/-- Channel `k` drawn. -/
def channel (p : IVec S21x96x384 1) (k : Nat) (hk : k < 3) : Code F PUnit := do
  let s ← colours arg3 p k hk 21 0 (Nat.le_refl _) (broadcast S96x384 (Scalar.ofBits .f32 0x00000000#32 : F .f32))
  let x : Vec F S1x1x96x384 .f32 ← Prog.lift (.load arg5 (Rect.unit (s := S1x3x96x384) ![0, k, 0, 0] S1x1x96x384.size (inb_channel k hk)).toLoadRect (View.loadsAt_vmem h_S1x1x96x384))
  let _ ← Prog.lift (.load arg6 (Rect.unit (s := S1x3x96x384) ![0, k, 0, 0] S1x1x96x384.size (inb_channel k hk)).toLoadRect (View.loadsAt_vmem h_S1x1x96x384))
  Prog.lift (.store arg6 (Rect.unit (s := S1x3x96x384) ![0, k, 0, 0] S1x1x96x384.size (inb_channel k hk)) (toBytes x s) Finset.univ (View.stores_vmem h_S1x1x96x384 (harg6.storeExact_slice rfl _ (packed_channel k hk)) (fun _ => rfl)) (.inl rfl))

/-- Where each class is present: the accumulator above one half. -/
def present (a : Vec F S21x96x384 .f32) : IVec S21x96x384 1 :=
  cmpf .ogt a (broadcast S21x96x384 (Scalar.ofBits .f32 0x3F000000#32 : F .f32))

/-- The whole body. -/
def body : Code F PUnit := do
  clear arg7
  bins i arg2 arg4 arg7 100 0 (Nat.le_refl _)
  let a : Vec F S21x96x384 .f32 ← Prog.lift (.load arg7 (Rect.unit (s := S21x96x384) ![0, 0, 0] S21x96x384.size inb_S21x96x384_S21x96x384_0_0_0).toLoadRect (View.loadsAt_vmem h_S21x96x384))
  channel arg3 arg5 arg6 harg6 (present a) 0 (by decide)
  channel arg3 arg5 arg6 harg6 (present a) 1 (by decide)
  channel arg3 arg5 arg6 harg6 (present a) 2 (by decide)

/-- The printed body is this one. -/
theorem printed_eq (harg2 : arg2.IsWhole) (harg3 : arg3.IsWhole) (harg4 : arg4.IsWhole) (harg5 : arg5.IsWhole) (harg7 : arg7.IsWhole) :
    cc0__draw_kernel (F := F) i arg2 harg2 arg3 harg3 arg4 harg4 arg5 harg5 arg6 harg6 arg7 harg7
      = body i arg2 arg3 arg4 arg5 arg6 harg6 arg7 := by
  chain_rfl

end Cert.KernelIdeal.Body

end
-- ==== Proof.Block.lean ====
/- What one block computes, pixel by pixel: the accumulator after a number of masks, the colour sum over a number of classes,
   the byte of a pixel's channel. Each vector step of the body is the pixel's step at every pixel. -/
module

public import proofs.«01_k».proof.Proof.Body
public import Idealize.ShloMosaic.Lib.Pipeline.Value

@[expose] public section

noncomputable section

namespace Cert.KernelIdeal.Body

open Idealize.ShloMosaic Idealize.SL.Sem
open Facts₀ Facts

variable {F : FTy → Type} [FloatOps F]

/-! ## Places -/

/-- Where the class of mask `n` of the point's batch row lies. -/
def cellAt (i : grid0.Coords) (n : Nat) (h : n < 100) : S4x100.Idx := fun a => match a with
  | ⟨0, _⟩ => ⟨(i 0).val, (i 0).isLt⟩
  | ⟨1, _⟩ => ⟨n, h⟩

/-- Where class `c`'s colour on channel `k` lies. -/
def colourAt (c k : Nat) (hc : c < 21) (hk : k < 3) : S21x3.Idx := fun a => match a with
  | ⟨0, _⟩ => ⟨c, hc⟩
  | ⟨1, _⟩ => ⟨k, hk⟩

/-- Pixel `(u, v)` of mask `n` of a block. -/
def maskAt (n : Nat) (h : n < 100) (u : Fin 96) (v : Fin 384) : S1x100x96x384.Idx := fun a => match a with
  | ⟨0, _⟩ => ⟨0, Nat.one_pos⟩
  | ⟨1, _⟩ => ⟨n, h⟩
  | ⟨2, _⟩ => u
  | ⟨3, _⟩ => v

/-- Pixel `(u, v)` of class `c`'s plane. -/
def planeAt (c : Nat) (hc : c < 21) (u : Fin 96) (v : Fin 384) : S21x96x384.Idx := fun a => match a with
  | ⟨0, _⟩ => ⟨c, hc⟩
  | ⟨1, _⟩ => u
  | ⟨2, _⟩ => v

/-- Pixel `(u, v)` of channel `k` of a block. -/
def channelAt (k : Nat) (hk : k < 3) (u : Fin 96) (v : Fin 384) : S1x3x96x384.Idx := fun a => match a with
  | ⟨0, _⟩ => ⟨0, Nat.one_pos⟩
  | ⟨1, _⟩ => ⟨k, hk⟩
  | ⟨2, _⟩ => u
  | ⟨3, _⟩ => v

/-- Pixel `(u, v)` of a plane. -/
def pixelAt (u : Fin 96) (v : Fin 384) : S96x384.Idx := fun a => match a with
  | ⟨0, _⟩ => u
  | ⟨1, _⟩ => v

/-- Pixel `(u, v)` of a slice of one plane. -/
def oneAt (u : Fin 96) (v : Fin 384) : S1x96x384.Idx := fun a => match a with
  | ⟨0, _⟩ => ⟨0, Nat.one_pos⟩
  | ⟨1, _⟩ => u
  | ⟨2, _⟩ => v

/-- Pixel `(u, v)` of a slice of one channel. -/
def oneOneAt (u : Fin 96) (v : Fin 384) : S1x1x96x384.Idx := fun a => match a with
  | ⟨0, _⟩ => ⟨0, Nat.one_pos⟩
  | ⟨1, _⟩ => ⟨0, Nat.one_pos⟩
  | ⟨2, _⟩ => u
  | ⟨3, _⟩ => v

/-! ## Contents -/

/-- The accumulator with mask `n` added to the plane that word `w` names. -/
def binOne (x2 : S1x100x96x384.Idx → F .f32) (w : BitVec 32) (n : Nat) (h : n < 100) (A : S21x96x384.Idx → F .f32) :
    S21x96x384.Idx → F .f32 := fun y =>
  if (y 0).val = k0_off2 w 0 then FloatOps.addf (A y) (x2 (maskAt n h (y 1) (y 2))) else A y

/-- The accumulator after `k` masks, from mask `n` on. -/
def binned (i : grid0.Coords) (x0 : S4x100.Idx → BitVec 32) (x2 : S1x100x96x384.Idx → F .f32) :
    (k n : Nat) → n + k ≤ 100 → (S21x96x384.Idx → F .f32) → S21x96x384.Idx → F .f32
  | 0, _, _, A => A
  | k + 1, n, h, A => binned i x0 x2 k (n + 1) (by omega) (binOne x2 (x0 (cellAt i n (by omega))) n (by omega) A)

/-- The accumulator after all the masks. -/
def totals (i : grid0.Coords) (x0 : S4x100.Idx → BitVec 32) (x2 : S1x100x96x384.Idx → F .f32) : S21x96x384.Idx → F .f32 :=
  binned i x0 x2 100 0 (Nat.le_refl _) (fun _ => Scalar.ofBits .f32 0x00000000#32)

/-- A pixel's colour sum on channel `k` over `j` classes, from class `c` on. -/
def colourSum (A : S21x96x384.Idx → F .f32) (x1 : S21x3.Idx → F .f32) (u : Fin 96) (v : Fin 384) (k : Nat) (hk : k < 3) :
    (j c : Nat) → c + j ≤ 21 → F .f32 → F .f32
  | 0, _, _, s => s
  | j + 1, c, h, s => colourSum A x1 u v k hk j (c + 1) (by omega)
      (FloatOps.addf s (Scalar.select (FloatOps.cmpf .ogt (A (planeAt c (by omega) u v)) (Scalar.ofBits .f32 0x3F000000#32))
        (x1 (colourAt c k (by omega) hk)) (Scalar.ofBits .f32 0x00000000#32)))

/-- A pixel's byte from its image value and its colour sum. -/
def byteOf (x s : F .f32) : BitVec 8 :=
  FloatOps.fptoui 8 (FloatOps.minimumf (Scalar.ofBits .f32 0x437F0000#32)
    (FloatOps.maximumf (Scalar.ofBits .f32 0x00000000#32)
      (FloatOps.addf x (FloatOps.mulf s (Scalar.ofBits .f32 0x3E99999A#32)))))

/-- The block drawn over an accumulator. -/
def drawn (A : S21x96x384.Idx → F .f32) (x1 : S21x3.Idx → F .f32) (x3 : S1x3x96x384.Idx → F .f32) : S1x3x96x384.Idx → BitVec 8 := fun y =>
  byteOf (x3 (channelAt (y 1).val (y 1).isLt (y 2) (y 3)))
    (colourSum A x1 (y 2) (y 3) (y 1).val (y 1).isLt 21 0 (Nat.le_refl _) (Scalar.ofBits .f32 0x00000000#32))

/-! ## The vector steps at a pixel -/

/-- A plane of the accumulator with a mask added, at a pixel. -/
theorem addMask_at [Facts] (a : Vec F S1x96x384 .f32) (x : Vec F S1x1x96x384 .f32) (z : S1x96x384.Idx) :
    addMask a x z = FloatOps.addf (a z) (x (oneOneAt (z 1) (z 2))) := by
  have hz : (z 0).val = 0 := Nat.lt_one_iff.mp (z 0).isLt
  unfold addMask
  rw [shapeCast_self]
  show FloatOps.addf (a z) _ = _
  congr 1
  rw [shapeCast_apply _ _ z (pixelAt (z 1) (z 2)), shapeCast_apply _ _ (pixelAt (z 1) (z 2)) (oneOneAt (z 1) (z 2))]
  · rw [Shape.rowMajor_val_four, Shape.rowMajor_val_two]
    show ((0 * 1 + 0) * 96 + (z 1).val) * 384 + (z 2).val = (z 1).val * 384 + (z 2).val
    omega
  · rw [Shape.rowMajor_val_three, Shape.rowMajor_val_two, hz]
    show (z 1).val * 384 + (z 2).val = (0 * 96 + (z 1).val) * 384 + (z 2).val
    omega

/-- The overlaid plane is the accumulator with the mask added. -/
theorem overlay_mask [Facts] (x2 : Vec F S1x100x96x384 .f32) (w : BitVec 32) (hw : k0_chk1 w) (n : Nat) (h : n < 100)
    (A : Vec F S21x96x384 .f32) :
    (Rect.unit (s := S21x96x384) (k0_off2 w) S1x96x384.size (k0_off2_inb w hw)).overlay A
      (addMask (fun x => A ((Rect.unit (s := S21x96x384) (k0_off2 w) S1x96x384.size (k0_off2_inb w hw)).toLoadRect.idx x))
        (fun x => x2 ((Rect.unit (s := S1x100x96x384) ![0, n, 0, 0] S1x1x96x384.size (inb_mask n h)).toLoadRect.idx x)))
      = binOne x2 w n h A := by
  funext y
  by_cases hy : (y 0).val = k0_off2 w 0
  · have he : (Rect.unit (s := S21x96x384) (k0_off2 w) S1x96x384.size (k0_off2_inb w hw)).emb (oneAt (y 1) (y 2)) = y :=
      funext fun a => Fin.ext (match a with
        | ⟨0, _⟩ => by show k0_off2 w 0 + 1 * 0 = (y 0).val; omega
        | ⟨1, _⟩ => by show 0 + 1 * (y 1).val = (y 1).val; omega
        | ⟨2, _⟩ => by show 0 + 1 * (y 2).val = (y 2).val; omega)
    have hm : (Rect.unit (s := S1x100x96x384) ![0, n, 0, 0] S1x1x96x384.size (inb_mask n h)).toLoadRect.idx (oneOneAt (y 1) (y 2))
        = maskAt n h (y 1) (y 2) :=
      funext fun a => Fin.ext (match a with
        | ⟨0, _⟩ => rfl
        | ⟨1, _⟩ => rfl
        | ⟨2, _⟩ => by show 0 + 1 * (y 1).val = (y 1).val; omega
        | ⟨3, _⟩ => by show 0 + 1 * (y 2).val = (y 2).val; omega)
    rw [binOne, if_pos hy]
    refine (congrArg _ he.symm).trans ((Rect.overlay_emb _ _ _ _).trans ((addMask_at _ _ _).trans ?_))
    show FloatOps.addf (A ((Rect.unit (s := S21x96x384) (k0_off2 w) S1x96x384.size (k0_off2_inb w hw)).emb (oneAt (y 1) (y 2)))) (x2 _) = _
    rw [he]
    exact congrArg (fun p => FloatOps.addf (A y) (x2 p)) hm
  · rw [binOne, if_neg hy]
    refine Rect.overlay_of_not_mem _ _ _ fun hm => hy ?_
    have h0 : k0_off2 w 0 ≤ (y 0).val ∧ (y 0).val < k0_off2 w 0 + 1 := Rect.mem_set_unit.mp hm 0
    omega

/-- The colour sum with a class's colour added, at a pixel. -/
theorem addColour_at [Facts] (A : Vec F S21x96x384 .f32) (c : Nat) (hc : c < 21) (t : F .f32) (s : FVec F S96x384 .f32)
    (u : Fin 96) (v : Fin 384) :
    addColour (present A) c hc t s (pixelAt u v)
      = FloatOps.addf (s (pixelAt u v)) (Scalar.select (FloatOps.cmpf .ogt (A (planeAt c hc u v)) (Scalar.ofBits .f32 0x3F000000#32))
          t (Scalar.ofBits .f32 0x00000000#32)) := by
  show FloatOps.addf _ (Scalar.select (shapeCast S96x384 _ _ (pixelAt u v)) t _) = _
  rw [shapeCast_apply _ _ (pixelAt u v) (oneAt u v), extractStridedSlice_apply _ _ _ _ (planeAt c hc u v)]
  · rfl
  · intro a
    match a with
    | ⟨0, _⟩ => rfl
    | ⟨1, _⟩ => show u.val = 0 + u.val; omega
    | ⟨2, _⟩ => show v.val = 0 + v.val; omega
  · rw [Shape.rowMajor_val_three, Shape.rowMajor_val_two]
    show (0 * 96 + u.val) * 384 + v.val = u.val * 384 + v.val
    omega

/-- A channel's bytes at a pixel. -/
theorem toBytes_at [Facts] (x : Vec F S1x1x96x384 .f32) (s : FVec F S96x384 .f32) (z : S1x1x96x384.Idx) :
    toBytes x s z = byteOf (x (oneOneAt (z 2) (z 3))) (s (pixelAt (z 2) (z 3))) := by
  have h0 : (z 0).val = 0 := Nat.lt_one_iff.mp (z 0).isLt
  have h1 : (z 1).val = 0 := Nat.lt_one_iff.mp (z 1).isLt
  unfold toBytes
  rw [shapeCast_apply _ _ z (pixelAt (z 2) (z 3))]
  · show FloatOps.fptoui 8 (FloatOps.minimumf _ (FloatOps.maximumf _ (FloatOps.addf (shapeCast S96x384 x _ (pixelAt (z 2) (z 3))) _))) = _
    rw [shapeCast_apply _ _ (pixelAt (z 2) (z 3)) (oneOneAt (z 2) (z 3))]
    · rfl
    · rw [Shape.rowMajor_val_four, Shape.rowMajor_val_two]
      show ((0 * 1 + 0) * 96 + (z 2).val) * 384 + (z 3).val = (z 2).val * 384 + (z 3).val
      omega
  · rw [Shape.rowMajor_val_four, Shape.rowMajor_val_two, h0, h1]
    show (z 2).val * 384 + (z 3).val = ((0 * 1 + 0) * 96 + (z 2).val) * 384 + (z 3).val
    omega

end Cert.KernelIdeal.Body

end
-- ==== Proof.Rules.lean ====
/- The steps of a body over owned memrefs, the contents named by what the memref reads: a load hands its rectangle of them, a
   store overlays its rectangle with the payload. -/
module

public import proofs.«01_k».proof.Proof.Body
public import proofs.«01_k».proof.Proof.Gen.KernelIdeal.Frame

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The proposition that a program of the body run on core `c` ends in `K`. -/
abbrev Runs (c : Dev nD) (E : Set ℕ) {α : Type} (p : Code F α) (K : α → sProp 𝕄) : sProp 𝕄 :=
  wp frame (wpE (defs₀ (F := F)) Variants.none c none) E p K

variable (c : Dev nD) (E : Set ℕ) {α : Type} {s : Shape} {e : EltTy}

/-- A load of an owned memref continues at the contents on its rectangle. -/
theorem load_owned {cs : CoreSpace} (m : Memref sig .tc cs s e) (q : PosShare TreeShare) (X : s.Idx → Elt F e) (r : LoadRect s)
    (hl : m.view.LoadsAt r) (k : (r.shape.Idx → Elt F e) → Code F α) (K : α → sProp 𝕄) :
    owns (c : Thread nD τ) m q X
      ⊢ iprop((owns (c : Thread nD τ) m q X -∗ Runs c E (k fun x => X (r.idx x)) K) -∗ Runs c E (Prog.lift (.load m r hl) >>= k) K) := by
  show _ ⊢ iprop(_ -∗ Runs c E (.op _ k) K)
  unfold owns
  iintro ⟨%f, %hf, H⟩ Hk
  subst hf
  iapply (wp_load (defs := defs₀ (F := F)) Variants.none (c : Thread nD τ) none E (m := m) (r := r) (hl := hl) (k := k)
    (S := m.view.set) (q := q) (f := f) (View.setOn_subset_set _ _)) $$ H
  iintro H
  iapply Hk
  iexists f
  isplitr
  · ipureintro; rfl
  iexact H

/-- A load of one word of an owned scalar memref continues at the word. -/
theorem word_owned (m : Memref sig .tc .smem s e) (q : PosShare TreeShare) (X : s.Idx → Elt F e) (r : Rect s)
    (h1 : r.shape.numel = 1) (hp : e.packing = 1) (y : s.Idx) (hy : r.emb (Shape.Idx.first (h1.symm ▸ Nat.one_pos)) = y)
    (k : Elt F e → Code F α) (K : α → sProp 𝕄) :
    owns (c : Thread nD τ) m q X
      ⊢ iprop((owns (c : Thread nD τ) m q X -∗ Runs c E (k (X y)) K) -∗ Runs c E (smemLoad m r h1 hp >>= k) K) := by
  subst hy
  exact load_owned c E m q X r.toLoadRect (View.loadsAt_rect (View.loads_smem_one hp h1))
    (fun f => k (f (Shape.Idx.first (h1.symm ▸ Nat.one_pos)))) K

/-- A side condition that holds is passed. -/
theorem assume_true {P : Prop} (d : Decidable P) (h : P) (k : PLift P → Code F α) (K : α → sProp 𝕄) :
    Runs c E (k ⟨h⟩) K ⊢ Runs c E (Prog.lift (TpuEff.assume P d) >>= k) K :=
  wp_assume (defs := defs₀ (F := F)) Variants.none (c : Thread nD τ) none E (k := k) h

/-- A program followed by another. -/
theorem then_owned {β : Type} (p : Code F β) (k : β → Code F α) (K : α → sProp 𝕄) :
    Runs c E p (fun x => Runs c E (k x) K) ⊢ Runs c E (p >>= k) K := by
  show _ ⊢ wp frame (wpE (defs₀ (F := F)) Variants.none c none) E (p >>= k) K
  rw [wp_bind]

/-- A program that only returns. -/
theorem return_owned (a : α) (K : α → sProp 𝕄) : K a ⊢ Runs c E (pure a) K := BI.fupd_intro

/-- A store to an owned memref leaves the contents with its rectangle overlaid. -/
theorem store_owned {cs : CoreSpace} (m : Memref sig .tc cs s e) (X : s.Idx → Elt F e) (r : Rect s) (w : r.shape.Idx → Elt F e)
    (hx : (m.access r).Stores Finset.univ) (hm : (Finset.univ : Finset r.shape.Idx) = Finset.univ ∨ ∀ a, r.stride a = 1)
    (k : PUnit → Code F α) (K : α → sProp 𝕄) :
    owns (c : Thread nD τ) m fullShare X
      ⊢ iprop((owns (c : Thread nD τ) m fullShare (r.overlay X w) -∗ Runs c E (k ⟨⟩) K) -∗ Runs c E (Prog.lift (.store m r w Finset.univ hx hm) >>= k) K) := by
  show _ ⊢ iprop(_ -∗ Runs c E (.op _ k) K)
  unfold owns
  iintro ⟨%f, %hf, H⟩ Hk
  subst hf
  iapply (wp_store (defs := defs₀ (F := F)) Variants.none (c : Thread nD τ) none E (m := m) (r := r) (w := w) (hx := hx) (hm := hm) (k := k) (S := m.view.set) (f := f) (by
    rw [View.setOn_univ]; exact View.set_slice_subset _ _)) $$ H
  iintro H
  iapply Hk
  iexists m.view.writes (Elt F) f [⟨r, w⟩]
  isplitr
  · ipureintro
    funext y
    by_cases hy : y ∈ r.set
    · obtain ⟨x, rfl⟩ := r.exists_idx_of_mem hy
      exact (View.read_writes_cons_emb _ _ _ _ _ _).trans (r.overlay_emb _ _ _).symm
    · rw [r.overlay_of_not_mem _ _ hy]
      exact View.read_writes_cons_miss _ _ _ _ _ hy
  iexact H

/-- The same for a store that ends a program. -/
theorem store_last {cs : CoreSpace} (m : Memref sig .tc cs s e) (X : s.Idx → Elt F e) (r : Rect s) (w : r.shape.Idx → Elt F e)
    (hx : (m.access r).Stores Finset.univ) (hm : (Finset.univ : Finset r.shape.Idx) = Finset.univ ∨ ∀ a, r.stride a = 1)
    (K : PUnit → sProp 𝕄) :
    owns (c : Thread nD τ) m fullShare X
      ⊢ iprop((owns (c : Thread nD τ) m fullShare (r.overlay X w) -∗ K ⟨⟩) -∗ Runs c E (Prog.lift (.store m r w Finset.univ hx hm)) K) :=
  (store_owned c E m X r w hx hm pure K).trans (wand_mono_left (wand_mono_right (return_owned c E _ K)))

end Cert.KernelIdeal.Body

end
-- ==== Proof.BlockRun.lean ====
/- The body run on owned memrefs: the accumulator cleared and the masks binned one by one, the colours added class by class,
   the three channels stored; the output memref ends holding the block drawn over the totals. -/
module

public import proofs.«01_k».proof.Proof.Block
public import proofs.«01_k».proof.Proof.Rules

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- A store over the whole accumulator leaves its payload. -/
theorem overlay_whole [Facts] (A w : S21x96x384.Idx → F .f32) :
    (Rect.unit (s := S21x96x384) ![0, 0, 0] S21x96x384.size inb_S21x96x384_S21x96x384_0_0_0).overlay A w = w := by
  funext y
  have he : (Rect.unit (s := S21x96x384) ![0, 0, 0] S21x96x384.size inb_S21x96x384_S21x96x384_0_0_0).emb y = y :=
    funext fun a => Fin.ext (match a with
      | ⟨0, _⟩ => by show 0 + 1 * (y 0).val = (y 0).val; omega
      | ⟨1, _⟩ => by show 0 + 1 * (y 1).val = (y 1).val; omega
      | ⟨2, _⟩ => by show 0 + 1 * (y 2).val = (y 2).val; omega)
  exact (congrArg _ he.symm).trans (Rect.overlay_emb _ _ _ _)

/-- A load of the whole accumulator reads its contents. -/
theorem load_whole [Facts] (A : S21x96x384.Idx → F .f32) :
    (fun x => A ((Rect.unit (s := S21x96x384) ![0, 0, 0] S21x96x384.size inb_S21x96x384_S21x96x384_0_0_0).toLoadRect.idx x)) = A :=
  View.ld_unit_zero (Val := Elt F) (e := .f32) (funext fun a => match a with | ⟨0, _⟩ => rfl | ⟨1, _⟩ => rfl | ⟨2, _⟩ => rfl) _ A

/-- The one index of a word's rectangle of the class table is the class's place. -/
theorem cell_word (i : grid0.Coords) (n : Nat) (h : n < 100) (z : S1x1.Idx) :
    (Rect.unit (s := S4x100) ![row i, n] S1x1.size (inb_cid i n h)).emb z = cellAt i n h := by
  have h0 : (z 0).val = 0 := Nat.lt_one_iff.mp (z 0).isLt
  have h1 : (z 1).val = 0 := Nat.lt_one_iff.mp (z 1).isLt
  exact funext fun a => Fin.ext (match a with
    | ⟨0, _⟩ => by show row i + 1 * (z 0).val = (i 0).val; rw [row_eq, h0]; omega
    | ⟨1, _⟩ => by show n + 1 * (z 1).val = n; rw [h1]; omega)

/-- The one index of a word's rectangle of the colour table is the colour's place. -/
theorem colour_word (n k : Nat) (h : n < 21) (hk : k < 3) (z : S1x1.Idx) :
    (Rect.unit (s := S21x3) ![n, k] S1x1.size (inb_colour n k h hk)).emb z = colourAt n k h hk := by
  have h0 : (z 0).val = 0 := Nat.lt_one_iff.mp (z 0).isLt
  have h1 : (z 1).val = 0 := Nat.lt_one_iff.mp (z 1).isLt
  exact funext fun a => Fin.ext (match a with
    | ⟨0, _⟩ => by show n + 1 * (z 0).val = n; rw [h0]; omega
    | ⟨1, _⟩ => by show k + 1 * (z 1).val = k; rw [h1]; omega)

/-- A channel's colour sum as the body accumulates it, a plane at a time. -/
def planeSum [Facts] (x1 : S21x3.Idx → F .f32) (p : IVec S21x96x384 1) (k : Nat) (hk : k < 3) :
    (j n : Nat) → n + j ≤ 21 → FVec F S96x384 .f32 → FVec F S96x384 .f32
  | 0, _, _, s => s
  | j + 1, n, h, s => planeSum x1 p k hk j (n + 1) (by omega) (addColour p n (by omega) (x1 (colourAt n k (by omega) hk)) s)

/-- It is the pixel's colour sum at every pixel. -/
theorem planeSum_at [Facts] (x1 : S21x3.Idx → F .f32) (A : Vec F S21x96x384 .f32) (k : Nat) (hk : k < 3) (u : Fin 96) (v : Fin 384) :
    ∀ (j n : Nat) (h : n + j ≤ 21) (s : FVec F S96x384 .f32),
      planeSum x1 (present A) k hk j n h s (pixelAt u v) = colourSum A x1 u v k hk j n h (s (pixelAt u v))
  | 0, _, _, _ => rfl
  | j + 1, n, h, s => by
    rw [planeSum, colourSum, planeSum_at x1 A k hk u v j, addColour_at]

/-- Channel `k`'s plane stored over a block: the drawn block on that channel, the block elsewhere. -/
theorem overlay_channel [Facts] (A : Vec F S21x96x384 .f32) (x1 : Vec F S21x3 .f32) (x3 : Vec F S1x3x96x384 .f32) (k : Nat) (hk : k < 3)
    (D : S1x3x96x384.Idx → BitVec 8) :
    (Rect.unit (s := S1x3x96x384) ![0, k, 0, 0] S1x1x96x384.size (inb_channel k hk)).overlay D
      (toBytes (fun x => x3 ((Rect.unit (s := S1x3x96x384) ![0, k, 0, 0] S1x1x96x384.size (inb_channel k hk)).toLoadRect.idx x))
        (planeSum x1 (present A) k hk 21 0 (Nat.le_refl _) (broadcast S96x384 (Scalar.ofBits .f32 0x00000000#32 : F .f32))))
      = fun y => if (y 1).val = k then drawn A x1 x3 y else D y := by
  funext y
  by_cases hy : (y 1).val = k
  · subst hy
    have h0 : (y 0).val = 0 := Nat.lt_one_iff.mp (y 0).isLt
    have he : (Rect.unit (s := S1x3x96x384) ![0, (y 1).val, 0, 0] S1x1x96x384.size (inb_channel (y 1).val hk)).emb (oneOneAt (y 2) (y 3)) = y :=
      funext fun a => Fin.ext (match a with
        | ⟨0, _⟩ => h0.symm
        | ⟨1, _⟩ => rfl
        | ⟨2, _⟩ => by show 0 + 1 * (y 2).val = (y 2).val; omega
        | ⟨3, _⟩ => by show 0 + 1 * (y 3).val = (y 3).val; omega)
    have hm : (Rect.unit (s := S1x3x96x384) ![0, (y 1).val, 0, 0] S1x1x96x384.size (inb_channel (y 1).val hk)).toLoadRect.idx (oneOneAt (y 2) (y 3))
        = channelAt (y 1).val hk (y 2) (y 3) :=
      funext fun a => Fin.ext (match a with
        | ⟨0, _⟩ => rfl
        | ⟨1, _⟩ => rfl
        | ⟨2, _⟩ => by show 0 + 1 * (y 2).val = (y 2).val; omega
        | ⟨3, _⟩ => by show 0 + 1 * (y 3).val = (y 3).val; omega)
    rw [if_pos rfl]
    refine (congrArg _ he.symm).trans ((Rect.overlay_emb _ _ _ _).trans ((toBytes_at _ _ _).trans ?_))
    exact congrArg₂ byteOf (congrArg x3 hm) (planeSum_at x1 A (y 1).val hk (y 2) (y 3) 21 0 (Nat.le_refl _) _)
  · rw [if_neg hy]
    refine Rect.overlay_of_not_mem _ _ _ fun hm => hy ?_
    have h0 : k ≤ (y 1).val ∧ (y 1).val < k + 1 := Rect.mem_set_unit.mp hm 1
    omega

/-- The three channels stored one after another make the drawn block, whatever was there. -/
theorem three_channels (G D : S1x3x96x384.Idx → BitVec 8) :
    (fun y : S1x3x96x384.Idx => if (y 1).val = 2 then G y else
      (fun y : S1x3x96x384.Idx => if (y 1).val = 1 then G y else (fun y : S1x3x96x384.Idx => if (y 1).val = 0 then G y else D y) y) y) = G := by
  funext y
  have h : (y 1).val < 3 := (y 1).isLt
  by_cases h2 : (y 1).val = 2
  · exact if_pos h2
  · by_cases h1 : (y 1).val = 1
    · exact (if_neg h2).trans (if_pos h1)
    · exact (if_neg h2).trans ((if_neg h1).trans (if_pos (by omega)))

variable [Facts] (c : Dev nD) (E : Set ℕ) (i : grid0.Coords) (arg2 : Memref sig .tc .smem S4x100 .i32) (arg3 : Memref sig .tc .smem S21x3 .f32)
  (arg4 : Memref sig .tc .vmem S1x100x96x384 .f32) (arg5 : Memref sig .tc .vmem S1x3x96x384 .f32)
  (arg6 : Memref sig .tc .vmem S1x3x96x384 .i8) (harg6 : arg6.IsWhole) (arg7 : Memref sig .tc .vmem S21x96x384 .f32)
  (x0 : Vec F S4x100 .i32) (x1 : Vec F S21x3 .f32) (x2 : Vec F S1x100x96x384 .f32) (x3 : Vec F S1x3x96x384 .f32)

/-- Clearing leaves zero everywhere. -/
theorem clear_run (A : Vec F S21x96x384 .f32) (K : PUnit → sProp 𝕄) :
    owns (c : Thread nD τ) arg7 fullShare A
      ⊢ iprop((owns (c : Thread nD τ) arg7 fullShare (fun _ => (Scalar.ofBits .f32 0x00000000#32 : F .f32)) -∗ K ⟨⟩) -∗ Runs c E (clear arg7) K) := by
  unfold clear
  iintro H7 Hk
  iapply (load_owned c E arg7) $$ H7
  iintro H7
  iapply (store_last c E arg7) $$ H7
  rw [overlay_whole, shapeCast_self]
  iexact Hk

/-- One mask binned. -/
theorem binStep_run (n : Nat) (h : n < 100) (hw : k0_chk1 (x0 (cellAt i n h))) (A : Vec F S21x96x384 .f32) (K : PUnit → sProp 𝕄) :
    iprop(owns (c : Thread nD τ) arg2 fullShare x0 ∗ owns (c : Thread nD τ) arg4 fullShare x2 ∗ owns (c : Thread nD τ) arg7 fullShare A)
      ⊢ iprop((iprop(owns (c : Thread nD τ) arg2 fullShare x0 ∗ owns (c : Thread nD τ) arg4 fullShare x2
          ∗ owns (c : Thread nD τ) arg7 fullShare (binOne (F := F) x2 (x0 (cellAt i n h)) n h A)) -∗ K ⟨⟩)
        -∗ Runs c E (binStep i arg2 arg4 arg7 n h) K) := by
  unfold binStep
  iintro ⟨H2, H4, H7⟩ Hk
  iapply (word_owned c E arg2 fullShare x0 _ numel1_S1x1 rfl (cellAt i n h) (cell_word i n h _)) $$ H2
  iintro H2
  iapply (assume_true c E _ hw)
  iapply (load_owned c E arg7) $$ H7
  iintro H7
  iapply (load_owned c E arg4) $$ H4
  iintro H4
  iapply (load_owned c E arg7) $$ H7
  iintro H7
  iapply (store_last c E arg7) $$ H7
  iintro H7
  iapply Hk
  isplitl [H2]; · iexact H2
  isplitl [H4]; · iexact H4
  rw [← overlay_mask x2 (x0 (cellAt i n h)) hw n h A]
  iexact H7

/-- The masks binned, any number of them from any one on. -/
theorem bins_run (hw : ∀ n (h : n < 100), k0_chk1 (x0 (cellAt i n h))) (K : PUnit → sProp 𝕄) :
    ∀ (k n : Nat) (h : n + k ≤ 100) (A : Vec F S21x96x384 .f32),
    iprop(owns (c : Thread nD τ) arg2 fullShare x0 ∗ owns (c : Thread nD τ) arg4 fullShare x2 ∗ owns (c : Thread nD τ) arg7 fullShare A)
      ⊢ iprop((iprop(owns (c : Thread nD τ) arg2 fullShare x0 ∗ owns (c : Thread nD τ) arg4 fullShare x2
          ∗ owns (c : Thread nD τ) arg7 fullShare (binned (F := F) i x0 x2 k n h A)) -∗ K ⟨⟩)
        -∗ Runs c E (bins i arg2 arg4 arg7 k n h) K)
  | 0, n, h, A => by
    unfold bins binned
    iintro H Hk
    iapply (return_owned c E)
    iapply Hk
    iexact H
  | k + 1, n, h, A => by
    unfold bins binned
    iintro H Hk
    iapply (then_owned c E)
    iapply (binStep_run c E i arg2 arg4 arg7 x0 x2 n _ (hw n _) A) $$ H
    iintro H
    iapply (bins_run hw K k (n + 1) _ _) $$ H
    iexact Hk

/-- The colours added, any number of classes from any one on. -/
theorem colours_run (p : IVec S21x96x384 1) (k : Nat) (hk : k < 3) (K : FVec F S96x384 .f32 → sProp 𝕄) :
    ∀ (j n : Nat) (h : n + j ≤ 21) (s : FVec F S96x384 .f32),
    owns (c : Thread nD τ) arg3 fullShare x1
      ⊢ iprop((owns (c : Thread nD τ) arg3 fullShare x1 -∗ K (planeSum x1 p k hk j n h s)) -∗ Runs c E (colours arg3 p k hk j n h s) K)
  | 0, n, h, s => by
    unfold colours planeSum
    iintro H Hk
    iapply (return_owned c E)
    iapply Hk
    iexact H
  | j + 1, n, h, s => by
    unfold colours planeSum
    iintro H Hk
    iapply (word_owned c E arg3 fullShare x1 _ numel1_S1x1 rfl (colourAt n k _ hk) (colour_word n k _ hk _)) $$ H
    iintro H
    iapply (colours_run p k hk K j (n + 1) _ _) $$ H
    iexact Hk

/-- One channel drawn. -/
theorem channel_run (A : Vec F S21x96x384 .f32) (k : Nat) (hk : k < 3) (D : Vec F S1x3x96x384 .i8) (K : PUnit → sProp 𝕄) :
    iprop(owns (c : Thread nD τ) arg3 fullShare x1 ∗ owns (c : Thread nD τ) arg5 fullShare x3 ∗ owns (c : Thread nD τ) arg6 fullShare D)
      ⊢ iprop((iprop(owns (c : Thread nD τ) arg3 fullShare x1 ∗ owns (c : Thread nD τ) arg5 fullShare x3
          ∗ owns (c : Thread nD τ) arg6 fullShare (fun y => if (y 1).val = k then drawn (F := F) A x1 x3 y else D y)) -∗ K ⟨⟩)
        -∗ Runs c E (channel arg3 arg5 arg6 harg6 (present A) k hk) K) := by
  unfold channel
  iintro ⟨H3, H5, H6⟩ Hk
  iapply (then_owned c E)
  iapply (colours_run c E arg3 x1 (present A) k hk _ 21 0 (Nat.le_refl _) _) $$ H3
  iintro H3
  iapply (load_owned c E arg5) $$ H5
  iintro H5
  iapply (load_owned c E arg6) $$ H6
  iintro H6
  iapply (store_last c E arg6) $$ H6
  iintro H6
  iapply Hk
  isplitl [H3]; · iexact H3
  isplitl [H5]; · iexact H5
  rw [← overlay_channel A x1 x3 k hk D]
  iexact H6

/-- The whole body, given that every class word passes its side condition: the output memref ends holding the block drawn over
    the totals, the scratch something. -/
theorem body_run (hw : ∀ n (h : n < 100), k0_chk1 (x0 (cellAt i n h))) (D : Vec F S1x3x96x384 .i8) (A : Vec F S21x96x384 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare D ∗ owns (c : Thread nD τ) arg7 fullShare A)
      ⊢ iprop((iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (drawn (F := F) (totals i x0 x2) x1 x3)
          ∗ ∃ d, owns (c : Thread nD τ) arg7 fullShare d) -∗ K ⟨⟩)
        -∗ Runs c E (body i arg2 arg3 arg4 arg5 arg6 harg6 arg7) K) := by
  unfold body
  iintro ⟨H2, H3, H4, H5, H6, H7⟩ Hk
  iapply (then_owned c E)
  iapply (clear_run c E arg7 A) $$ H7
  iintro H7
  iapply (then_owned c E)
  iapply (bins_run c E i arg2 arg4 arg7 x0 x2 hw _ 100 0 (Nat.le_refl _) _) $$ [H2 H4 H7]
  · isplitl [H2]; · iexact H2
    isplitl [H4]; · iexact H4
    iexact H7
  iintro ⟨H2, H4, H7⟩
  iapply (load_owned c E arg7) $$ H7
  iintro H7
  rw [load_whole]
  iapply (then_owned c E)
  iapply (channel_run c E arg3 arg5 arg6 harg6 x1 x3 _ 0 _ _) $$ [H3 H5 H6]
  · isplitl [H3]; · iexact H3
    isplitl [H5]; · iexact H5
    iexact H6
  iintro H
  iapply (then_owned c E)
  iapply (channel_run c E arg3 arg5 arg6 harg6 x1 x3 _ 1 _ _) $$ H
  iintro H
  iapply (channel_run c E arg3 arg5 arg6 harg6 x1 x3 _ 2 _ _) $$ H
  iintro ⟨H3, H5, H6⟩
  iapply Hk
  isplitl [H2]; · iexact H2
  isplitl [H3]; · iexact H3
  isplitl [H4]; · iexact H4
  isplitl [H5]; · iexact H5
  isplitl [H6]
  · rw [← three_channels (drawn (F := F) (totals i x0 x2) x1 x3) D]
    iexact H6
  iexists _
  iexact H7

end Cert.KernelIdeal.Body

end
-- ==== Proof.Launched.lean ====
/- The launch of the kernel's one region, given that every class word passes its side condition: what each grid point leaves in the
   output, and the run of @main around it. -/
module

public import proofs.«01_k».proof.Proof.BlockRun
public import Idealize.ShloMosaic.Lib.Claim

@[expose] public section

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands' blocks at a point -/

/-- The class table at a point. -/
def ids (c : Dev nD) (t : Fin cfg0.N) : S4x100.Idx → BitVec 32 := iblk m c 0 t
/-- The colour table at a point. -/
def cols (c : Dev nD) (t : Fin cfg0.N) : S21x3.Idx → F .f32 := iblk m c 1 t
/-- The masks' block at a point. -/
def msk (c : Dev nD) (t : Fin cfg0.N) : S1x100x96x384.Idx → F .f32 := iblk m c 2 t
/-- The image's block at a point. -/
def img (c : Dev nD) (t : Fin cfg0.N) : S1x3x96x384.Idx → F .f32 := iblk m c 3 t
/-- The block a point leaves. -/
def block (c : Dev nD) (t : Fin cfg0.N) : S1x3x96x384.Idx → BitVec 8 :=
  drawn (totals (grid0.coords t) (ids m c t) (msk m c t)) (cols m c t) (img m c t)

/-- Every class word a point reads passes its side condition. -/
def Fits : Prop := ∀ (c : Dev nD) (t : Fin cfg0.N) (n : Nat) (h : n < 100), k0_chk1 (ids m c t (cellAt (grid0.coords t) n h))

/-! ## The proof data -/

/-- The proof data of the region: the arrays as it finds them; each input's buffer at its block after a point, the output's at the
    point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- Window 0 (an input) ends a grid point with the block it began with. -/
theorem after_0 (c : Dev nD) (t : Fin cfg0.N) : (dats m 0 c).after 0 t = iblk m c 0 t := by dsimp only [dats]
/-- Window 1 (an input) ends a grid point with the block it began with. -/
theorem after_1 (c : Dev nD) (t : Fin cfg0.N) : (dats m 0 c).after 1 t = iblk m c 1 t := by dsimp only [dats]
/-- Window 2 (an input) ends a grid point with the block it began with. -/
theorem after_2 (c : Dev nD) (t : Fin cfg0.N) : (dats m 0 c).after 2 t = iblk m c 2 t := by dsimp only [dats]
/-- Window 3 (an input) ends a grid point with the block it began with. -/
theorem after_3 (c : Dev nD) (t : Fin cfg0.N) : (dats m 0 c).after 3 t = iblk m c 3 t := by dsimp only [dats]
/-- The output window ends a grid point with the computed block. -/
theorem after_4 (c : Dev nD) (t : Fin cfg0.N) : (dats m 0 c).after 4 t = block m c t := by dsimp only [dats]

/-- Window 0 (an input) begins a grid point with its block of the operand. -/
theorem before_0 (c : Dev nD) (t : Fin cfg0.N) (d) : (dats m 0 c).before 0 t d = iblk m c 0 t :=
  before0_0_of m (dats m 0 c) (A_eq m c 0) (after_0 m c) t d
/-- Window 1 (an input) begins a grid point with its block of the operand. -/
theorem before_1 (c : Dev nD) (t : Fin cfg0.N) (d) : (dats m 0 c).before 1 t d = iblk m c 1 t :=
  before0_1_of m (dats m 0 c) (A_eq m c 1) (after_1 m c) t d
/-- Window 2 (an input) begins a grid point with its block of the operand. -/
theorem before_2 (c : Dev nD) (t : Fin cfg0.N) (d) : (dats m 0 c).before 2 t d = iblk m c 2 t :=
  before0_2_of m (dats m 0 c) (A_eq m c 2) (after_2 m c) t d
/-- Window 3 (an input) begins a grid point with its block of the operand. -/
theorem before_3 (c : Dev nD) (t : Fin cfg0.N) (d) : (dats m 0 c).before 3 t d = iblk m c 3 t :=
  before0_3_of m (dats m 0 c) (A_eq m c 3) (after_3 m c) t d

/-- The scratch accumulator and the generator's register, as the region keeps them between points. -/
theorem kept_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-! ## The body at a point -/

/-- What the body is called with at a point. -/
def atEntry (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What it hands back. -/
def atExit (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- The body at any point. -/
theorem body_at (hm : Fits m) (c : Dev nD) (t : Fin cfg0.N) :
    atEntry m c t ⊢ wp frame (wpE (defs₀ (F := F)) Variants.none c none) Set.univ (bodyAt0 t) (fun _ => atExit m c t) := by
  unfold atEntry atExit bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, kept_eq, printed_eq]
  iintro ⟨⟨⟨%d7, H7⟩, Hg⟩, Ho, ⟨%d0, H2⟩, ⟨%d1, H3⟩, ⟨%d2, H4⟩, ⟨%d3, H5⟩, ⟨%d4, H6⟩⟩
  iapply (body_run c Set.univ (grid0.coords t) _ _ _ _ _ _ _ (ids m c t) (cols m c t) (msk m c t) (img m c t) (hm c t) _ d7 _) $$ [H2 H3 H4 H5 H6 H7]
  · isplitl [H2]; · iexact H2
    isplitl [H3]; · iexact H3
    isplitl [H4]; · iexact H4
    isplitl [H5]; · iexact H5
    isplitl [H6]; · iexact H6
    iexact H7
  iintro ⟨H2, H3, H4, H5, H6, H7⟩
  isplitl [H7 Hg]
  · isplitl [H7]
    · iexact H7
    iexact Hg
  isplitl [Ho]; · iexact Ho
  isplitl [H2]; · iexact H2
  isplitl [H3]; · iexact H3
  isplitl [H4]; · iexact H4
  isplitl [H5]; · iexact H5
  iexact H6

/-- The body table's row at a point is the body there. -/
theorem row_at (t : Fin cfg0.N) :
    defs₀ (F := F) .tc cfg0.body (cfg0.bodyArgs t (cfg0.slots t)) = bodyAt0 t := by
  unfold defs₀; rw [Defs.onTc_tc]

/-- The region's obligation on the body. -/
theorem obligation (hm : Fits m) (c : Dev nD) : BodyObligation (dats (F := F) m 0 c) (defs₀ (F := F)) Variants.none () Set.univ := fun t => by
  rw [bigSep_W0, bigSep_W0, row_at]
  exact triple_restated (body_at m hm c t) rfl .rfl fun _ => .rfl

/-! ## The run -/

set_option backward.isDefEq.respectTransparency.types false in
set_option maxHeartbeats 800000 in
/-- The run of @main: the output array at what the points left, every other array as @main's lines make it, every counter at zero. -/
theorem run_counters (hm : Fits m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m hm c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_arrays (hm : Fits m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_counters m ρ hm)

/-- The frame: the arguments end as they were, every counter at zero. -/
theorem frame_run (hm : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ hm)) ((θ_run defs _ _).mono (fun _ h => h.2) (run_counters m ρ hm))

end Cert.KernelIdeal.Launched

end
-- ==== Proof.Pixel.lean ====
/- One pixel of the result as a function of scalars: the class words of its image, the pixel's value in every mask, the colour of
   every class on one channel, and the image's value. The block a grid point draws is this at each of its pixels. -/
module

public import proofs.«01_k».proof.Proof.Block

@[expose] public section

noncomputable section

namespace Cert.KernelIdeal.Body

open Idealize.ShloMosaic Idealize.SL.Sem

variable {F : FTy → Type} [FloatOps F]

/-- A pixel's sum over the masks whose word names plane `p`: `k` masks, from mask `n` on. -/
def classSum (w : Fin 100 → BitVec 32) (x : Fin 100 → F .f32) (p : Nat) : (k n : Nat) → n + k ≤ 100 → F .f32 → F .f32
  | 0, _, _, s => s
  | k + 1, n, h, s => classSum w x p k (n + 1) (by omega)
      (if p = k0_off2 (w ⟨n, by omega⟩) 0 then FloatOps.addf s (x ⟨n, by omega⟩) else s)

/-- A pixel's total in class `p`. -/
def classTotal (w : Fin 100 → BitVec 32) (x : Fin 100 → F .f32) (p : Nat) : F .f32 :=
  classSum w x p 100 0 (Nat.le_refl _) (Scalar.ofBits .f32 0x00000000#32)

/-- The sum of the colours of the classes whose total is over one half: `j` classes, from class `c` on. -/
def paint (tot col : Fin 21 → F .f32) : (j c : Nat) → c + j ≤ 21 → F .f32 → F .f32
  | 0, _, _, s => s
  | j + 1, c, h, s => paint tot col j (c + 1) (by omega)
      (FloatOps.addf s (Scalar.select (FloatOps.cmpf .ogt (tot ⟨c, by omega⟩) (Scalar.ofBits .f32 0x3F000000#32))
        (col ⟨c, by omega⟩) (Scalar.ofBits .f32 0x00000000#32)))

/-- The byte of one pixel on one channel. -/
def pixelByte (w : Fin 100 → BitVec 32) (x : Fin 100 → F .f32) (col : Fin 21 → F .f32) (i : F .f32) : BitVec 8 :=
  byteOf i (paint (fun p => classTotal w x p.val) col 21 0 (Nat.le_refl _) (Scalar.ofBits .f32 0x00000000#32))

/-- The byte depends on the values of its operands alone. -/
theorem pixelByte_congr {w w' : Fin 100 → BitVec 32} {x x' : Fin 100 → F .f32} {col col' : Fin 21 → F .f32} {i i' : F .f32}
    (hw : ∀ n, w n = w' n) (hx : ∀ n, x n = x' n) (hcol : ∀ p, col p = col' p) (hi : i = i') :
    pixelByte w x col i = pixelByte w' x' col' i' := by
  rw [funext hw, funext hx, funext hcol, hi]

/-- The accumulator after some masks, at a place of a plane, is the pixel's sum for that plane. -/
theorem binned_at (i : grid0.Coords) (x0 : S4x100.Idx → BitVec 32) (x2 : S1x100x96x384.Idx → F .f32) (y : S21x96x384.Idx) :
    ∀ (k n : Nat) (h : n + k ≤ 100) (A : S21x96x384.Idx → F .f32),
      binned i x0 x2 k n h A y
        = classSum (fun n => x0 (cellAt i n.val n.isLt)) (fun n => x2 (maskAt n.val n.isLt (y 1) (y 2))) (y 0).val k n h (A y)
  | 0, _, _, _ => rfl
  | k + 1, n, h, A => by
    unfold binned classSum
    exact binned_at i x0 x2 y k (n + 1) (by omega) _

/-- The accumulator after all the masks holds the pixels' totals. -/
theorem totals_at (i : grid0.Coords) (x0 : S4x100.Idx → BitVec 32) (x2 : S1x100x96x384.Idx → F .f32) (p : Nat) (hp : p < 21)
    (u : Fin 96) (v : Fin 384) :
    totals i x0 x2 (planeAt p hp u v)
      = classTotal (fun n => x0 (cellAt i n.val n.isLt)) (fun n => x2 (maskAt n.val n.isLt u v)) p := by
  unfold totals classTotal
  exact binned_at i x0 x2 _ 100 0 (Nat.le_refl _) _

/-- A pixel's colour sum depends on the accumulator through the pixel's totals alone. -/
theorem colourSum_at (A : S21x96x384.Idx → F .f32) (x1 : S21x3.Idx → F .f32) (u : Fin 96) (v : Fin 384) (k : Nat) (hk : k < 3)
    (tot : Fin 21 → F .f32) (ht : ∀ p : Fin 21, A (planeAt p.val p.isLt u v) = tot p) :
    ∀ (j c : Nat) (h : c + j ≤ 21) (s : F .f32),
      colourSum A x1 u v k hk j c h s = paint tot (fun p => x1 (colourAt p.val k p.isLt hk)) j c h s
  | 0, _, _, _ => rfl
  | j + 1, c, h, s => by
    unfold colourSum paint
    rw [ht ⟨c, by omega⟩]
    exact colourSum_at A x1 u v k hk tot ht j (c + 1) (by omega) _

/-- The drawn block, pixel by pixel. -/
theorem drawn_at (i : grid0.Coords) (x0 : S4x100.Idx → BitVec 32) (x1 : S21x3.Idx → F .f32) (x2 : S1x100x96x384.Idx → F .f32)
    (x3 : S1x3x96x384.Idx → F .f32) (y : S1x3x96x384.Idx) :
    drawn (totals i x0 x2) x1 x3 y
      = pixelByte (fun n => x0 (cellAt i n.val n.isLt)) (fun n => x2 (maskAt n.val n.isLt (y 2) (y 3)))
          (fun p => x1 (colourAt p.val (y 1).val p.isLt (y 1).isLt)) (x3 (channelAt (y 1).val (y 1).isLt (y 2) (y 3))) := by
  unfold drawn pixelByte
  exact congrArg (byteOf _) (colourSum_at _ _ _ _ _ _ _ (fun p => totals_at i x0 x2 p.val p.isLt _ _) 21 0 _ _)

end Cert.KernelIdeal.Body

end
-- ==== Proof.Result.lean ====
/- What the result array holds after the run, pixel by pixel, as a function of the argument arrays: each point's block is its part of
   one array, the blocks cover that array, and the last host line moves the channel axis to the end. -/
module

public import proofs.«01_k».proof.Proof.Launched
public import proofs.«01_k».proof.Proof.Pixel
public import Idealize.ShloMosaic.Lib.Pipeline.ValueKit

@[expose] public section

set_option maxRecDepth 16384

noncomputable section

namespace Cert.KernelIdeal.Launched

open Idealize.ShloMosaic Idealize.ShloMosaic.TcCoe Idealize.SL.Sem
open Idealize.ShloMosaic.Pipeline (Dat Cfg Window)
open Cert.KernelIdeal.Gen Cert.KernelIdeal.Body

variable {F : FTy → Type} [FloatOps F]
variable (m : (ℓ : Loc nD τ sig) → Buf (Elt F) ℓ) (ρ : Dev nD → PrngReg)

/-! ## Places of the whole arrays -/

/-- Mask `n` of image `b`. -/
def wordAt (b : Fin 4) (n : Fin 100) : S4x100.Idx := fun a => match a with
  | ⟨0, _⟩ => b
  | ⟨1, _⟩ => n

/-- Pixel `(h, v)` of mask `n` of image `b`. -/
def maskPixel (b : Fin 4) (n : Fin 100) (h v : Fin 384) : S4x100x384x384.Idx := fun a => match a with
  | ⟨0, _⟩ => b
  | ⟨1, _⟩ => n
  | ⟨2, _⟩ => h
  | ⟨3, _⟩ => v

/-- Pixel `(h, v)` of image `b` on channel `k`, the channel before the pixel. -/
def planePixel (b : Fin 4) (k : Fin 3) (h v : Fin 384) : S4x3x384x384.Idx := fun a => match a with
  | ⟨0, _⟩ => b
  | ⟨1, _⟩ => k
  | ⟨2, _⟩ => h
  | ⟨3, _⟩ => v

/-- The same with the channel last. -/
def imagePixel (b : Fin 4) (h v : Fin 384) (k : Fin 3) : S4x384x384x3.Idx := fun a => match a with
  | ⟨0, _⟩ => b
  | ⟨1, _⟩ => h
  | ⟨2, _⟩ => v
  | ⟨3, _⟩ => k

/-- The pictures with the channel before the pixel, from the class words, colours, masks and images the region finds. -/
def picture (c : Dev nD) : S4x3x384x384.Idx → BitVec 8 := fun y =>
  pixelByte (fun n => (V m c main_v2 : S4x100.Idx → BitVec 32) (wordAt (y 0) n))
    (fun n => (V m c main_arg2 : S4x100x384x384.Idx → F .f32) (maskPixel (y 0) n (y 2) (y 3)))
    (fun p => (V m c main_arg3 : S21x3.Idx → F .f32) (colourAt p.val (y 1).val p.isLt (y 1).isLt))
    ((V m c main_v3 : S4x3x384x384.Idx → F .f32) y)

/-! ## The blocks in their arrays -/

/-- The block index of window 0 at each grid point. -/
theorem index_0 : ∀ t : Fin cfg0.N, win0_0.index t = ![0, 0] := (by decide +kernel : ∀ t : Fin grid0.N, _)
/-- The block index of window 1 at each grid point. -/
theorem index_1 : ∀ t : Fin cfg0.N, win0_1.index t = ![0, 0] := (by decide +kernel : ∀ t : Fin grid0.N, _)
/-- The block index of window 2 at each grid point. -/
theorem index_2 : ∀ t : Fin cfg0.N, win0_2.index t = ![(grid0.coords t 0).val, 0, (grid0.coords t 1).val, 0] :=
  (by decide +kernel : ∀ t : Fin grid0.N, _)
/-- The block index of window 3 at each grid point. -/
theorem index_3 : ∀ t : Fin cfg0.N, win0_3.index t = ![(grid0.coords t 0).val, 0, (grid0.coords t 1).val, 0] :=
  (by decide +kernel : ∀ t : Fin grid0.N, _)
/-- The block index of window 4 at each grid point. -/
theorem index_4 : ∀ t : Fin cfg0.N, win0_4.index t = ![(grid0.coords t 0).val, 0, (grid0.coords t 1).val, 0] :=
  (by decide +kernel : ∀ t : Fin grid0.N, _)

/-- The image a point draws. -/
def imageOf (t : Fin cfg0.N) : Fin 4 := ⟨(grid0.coords t 0).val, (grid0.coords t 0).isLt⟩

/-- The row of the image that row `u` of a point's block is. -/
def rowOf (t : Fin cfg0.N) (u : Fin 96) : Fin 384 :=
  ⟨(grid0.coords t 1).val * 96 + u.val, by
    have h : (grid0.coords t 1).val < 4 := (grid0.coords t 1).isLt
    omega⟩

/-- A class word of a point's table. -/
theorem ids_at (c : Dev nD) (t : Fin cfg0.N) (n : Nat) (h : n < 100) :
    ids m c t (cellAt (grid0.coords t) n h) = (V m c main_v2 : S4x100.Idx → BitVec 32) (wordAt (imageOf t) ⟨n, h⟩) := by
  have e := index_0 t
  show (V m c main_v2 : S4x100.Idx → BitVec 32) (((cfg0.win 0).blk t).view.emb (cellAt (grid0.coords t) n h)) = _
  refine congrArg _ (funext fun a => Fin.ext ?_)
  match a with
  | ⟨0, _⟩ => show win0_0.index t 0 * 4 + 1 * (grid0.coords t 0).val = (grid0.coords t 0).val; rw [e]; simp
  | ⟨1, _⟩ => show win0_0.index t 1 * 100 + 1 * n = n; rw [e]; simp

/-- A colour of a point's table. -/
theorem cols_at (c : Dev nD) (t : Fin cfg0.N) (j : S21x3.Idx) : cols m c t j = (V m c main_arg3 : S21x3.Idx → F .f32) j := by
  have e := index_1 t
  show (V m c main_arg3 : S21x3.Idx → F .f32) (((cfg0.win 1).blk t).view.emb j) = _
  refine congrArg _ (funext fun a => Fin.ext ?_)
  match a with
  | ⟨0, _⟩ => show win0_1.index t 0 * 21 + 1 * (j 0).val = (j 0).val; rw [e]; simp
  | ⟨1, _⟩ => show win0_1.index t 1 * 3 + 1 * (j 1).val = (j 1).val; rw [e]; simp

/-- A pixel of a mask of a point's block. -/
theorem msk_at (c : Dev nD) (t : Fin cfg0.N) (n : Nat) (h : n < 100) (u : Fin 96) (v : Fin 384) :
    msk m c t (maskAt n h u v)
      = (V m c main_arg2 : S4x100x384x384.Idx → F .f32) (maskPixel (imageOf t) ⟨n, h⟩ (rowOf t u) v) := by
  have e := index_2 t
  show (V m c main_arg2 : S4x100x384x384.Idx → F .f32) (((cfg0.win 2).blk t).view.emb (maskAt n h u v)) = _
  refine congrArg _ (funext fun a => Fin.ext ?_)
  match a with
  | ⟨0, _⟩ => show win0_2.index t 0 * 1 + 1 * 0 = (grid0.coords t 0).val; rw [e]; simp
  | ⟨1, _⟩ => show win0_2.index t 1 * 100 + 1 * n = n; rw [e]; simp
  | ⟨2, _⟩ => show win0_2.index t 2 * 96 + 1 * u.val = (grid0.coords t 1).val * 96 + u.val; rw [e]; simp
  | ⟨3, _⟩ => show win0_2.index t 3 * 384 + 1 * v.val = v.val; rw [e]; simp

/-- A pixel of the image of a point's block. -/
theorem img_at (c : Dev nD) (t : Fin cfg0.N) (k : Nat) (hk : k < 3) (u : Fin 96) (v : Fin 384) :
    img m c t (channelAt k hk u v)
      = (V m c main_v3 : S4x3x384x384.Idx → F .f32) (planePixel (imageOf t) ⟨k, hk⟩ (rowOf t u) v) := by
  have e := index_3 t
  show (V m c main_v3 : S4x3x384x384.Idx → F .f32) (((cfg0.win 3).blk t).view.emb (channelAt k hk u v)) = _
  refine congrArg _ (funext fun a => Fin.ext ?_)
  match a with
  | ⟨0, _⟩ => show win0_3.index t 0 * 1 + 1 * 0 = (grid0.coords t 0).val; rw [e]; simp
  | ⟨1, _⟩ => show win0_3.index t 1 * 3 + 1 * k = k; rw [e]; simp
  | ⟨2, _⟩ => show win0_3.index t 2 * 96 + 1 * u.val = (grid0.coords t 1).val * 96 + u.val; rw [e]; simp
  | ⟨3, _⟩ => show win0_3.index t 3 * 384 + 1 * v.val = v.val; rw [e]; simp

/-- A pixel of a point's block in the output array. -/
theorem out_at (t : Fin cfg0.N) (z : S1x3x96x384.Idx) :
    ((cfg0.win 4).blk t).view.emb z = planePixel (imageOf t) (z 1) (rowOf t (z 2)) (z 3) := by
  have e := index_4 t
  have h0 : (z 0).val = 0 := Nat.lt_one_iff.mp (z 0).isLt
  refine funext fun a => Fin.ext ?_
  match a with
  | ⟨0, _⟩ => show win0_4.index t 0 * 1 + 1 * (z 0).val = (grid0.coords t 0).val; rw [e, h0]; simp
  | ⟨1, _⟩ => show win0_4.index t 1 * 3 + 1 * (z 1).val = (z 1).val; rw [e]; simp
  | ⟨2, _⟩ => show win0_4.index t 2 * 96 + 1 * (z 2).val = (grid0.coords t 1).val * 96 + (z 2).val; rw [e]; simp
  | ⟨3, _⟩ => show win0_4.index t 3 * 384 + 1 * (z 3).val = (z 3).val; rw [e]; simp

/-- A pixel of the block a point leaves is the picture's pixel there. -/
theorem block_at (c : Dev nD) (t : Fin cfg0.N) (z : S1x3x96x384.Idx) :
    block m c t z = picture m c (planePixel (imageOf t) (z 1) (rowOf t (z 2)) (z 3)) := by
  unfold block
  rw [drawn_at]
  exact pixelByte_congr (fun n => ids_at m c t n.val n.isLt) (fun n => msk_at m c t n.val n.isLt (z 2) (z 3))
    (fun p => cols_at m c t _) (img_at m c t (z 1).val (z 1).isLt (z 2) (z 3))

/-- The output array after the run is the picture. -/
theorem final_4 (c : Dev nD) : (dats m 0 c).arrAt 4 cfg0.N = picture m c := by
  refine (dats m 0 c).arrAt_eq_of_covers 4 (picture m c) (by decide +kernel) fun t _ z => ?_
  rw [out_at t z]
  exact block_at m c t z

/-! ## The host lines around the region -/

/-- The class words are the fifth numbers of the detections, rounded toward zero. -/
theorem V_words (c : Dev nD) : V m c main_v2 = fptosi 32 (shapeCast S4x100
    (extractStridedSlice S4x100x1 ![0, 0, 4] (m ((c : Thread nD τ).loc main_arg1)) Facts₀.slices_S4x100x6_S4x100x1_0_0_4)
    Facts₀.shapeCasts_S4x100x1_S4x100) := by
  show StableHlo.after hostOps0 (fun b => m (c, b)) (Proc.devRef .tc main_v2) = _
  after_results
  rfl

/-- The images with the channel before the pixel. -/
theorem V_images (c : Dev nD) : V m c main_v3 = transpose S4x3x384x384 [0, 3, 1, 2] (m ((c : Thread nD τ).loc main_arg0))
    Facts₀.transposes_S4x384x384x3_S4x3x384x384_0_3_1_2 := by
  show StableHlo.after hostOps0 (fun b => m (c, b)) (Proc.devRef .tc main_v3) = _
  after_results

/-- The result array is the output array with the channel last. -/
theorem result_eq (c : Dev nD) : Pipeline.afterTail₀ cfgs (dats m) 0 (V0 m) [hostOps1] c main_v5
    = transpose S4x384x384x3 [0, 2, 3, 1] (picture m c) Facts₀.transposes_S4x3x384x384_S4x384x384x3_0_2_3_1 := by
  unfold Pipeline.afterTail₀
  show StableHlo.after hostOps1 _ (Proc.devRef .tc main_v5) = _
  after_results
  rw [← final_4 m c]
  exact congrArg (fun x => transpose S4x384x384x3 [0, 2, 3, 1] x Facts₀.transposes_S4x3x384x384_S4x384x384x3_0_2_3_1)
    (Pipeline.withArrays_arr spec0 launch0.win.arr_inj c (V0 m c) _ 4)

/-! ## The result, pixel by pixel -/

/-- The class words of a table of detections: the fifth number of each, rounded toward zero. -/
def wordsOf (a : S4x100x6.Idx → F .f32) : S4x100.Idx → BitVec 32 :=
  fptosi 32 (shapeCast S4x100 (extractStridedSlice S4x100x1 ![0, 0, 4] a Facts₀.slices_S4x100x6_S4x100x1_0_0_4)
    Facts₀.shapeCasts_S4x100x1_S4x100)

/-- The pictures of the arguments, the channel last. -/
def shown (a0 : S4x384x384x3.Idx → F .f32) (a1 : S4x100x6.Idx → F .f32) (a2 : S4x100x384x384.Idx → F .f32)
    (a3 : S21x3.Idx → F .f32) : S4x384x384x3.Idx → BitVec 8 := fun y =>
  pixelByte (fun n => wordsOf a1 (wordAt (y 0) n)) (fun n => a2 (maskPixel (y 0) n (y 1) (y 2)))
    (fun p => a3 (colourAt p.val (y 3).val p.isLt (y 3).isLt)) (a0 y)

/-- The result array after the run holds the pictures of the arguments. -/
theorem result_at (c : Dev nD) : (Pipeline.afterTail₀ cfgs (dats m) 0 (V0 m) [hostOps1] c main_v5 : S4x384x384x3.Idx → BitVec 8)
    = shown (m ((c : Thread nD τ).loc main_arg0)) (m ((c : Thread nD τ).loc main_arg1)) (m ((c : Thread nD τ).loc main_arg2))
        (m ((c : Thread nD τ).loc main_arg3)) := by
  rw [result_eq]
  funext y
  rw [transpose_apply _ _ _ y (planePixel (y 0) (y 3) (y 1) (y 2)) (fun a => match a with
    | ⟨0, _⟩ => rfl
    | ⟨1, _⟩ => rfl
    | ⟨2, _⟩ => rfl
    | ⟨3, _⟩ => rfl)]
  unfold picture shown
  rw [V_words, V_images, V_main_arg2, V_main_arg3]
  refine pixelByte_congr (fun _ => rfl) (fun _ => rfl) (fun _ => rfl) ?_
  exact transpose_apply _ _ _ _ y (fun a => match a with
    | ⟨0, _⟩ => rfl
    | ⟨1, _⟩ => rfl
    | ⟨2, _⟩ => rfl
    | ⟨3, _⟩ => rfl)

/-- The run of @main: the result array at the pictures, the arguments as they were. -/
theorem run_shown (hm : Fits m) : θ_run defs (onTc (τ := τ) (main (F := F))) ⟨m, fun _ => 0, ρ⟩ (fun r => ∀ c : Dev nD,
      r.2.mem ((c.tc : Thread nD τ).loc main_v5) = shown (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(((h.1 c).2 main_v5 (Pipeline.mem_restRefs_of main_v5 (by decide) (by decide))).trans (result_at m c)), h.2.1 c⟩)
    (θ_run_and (run_arrays m ρ hm) (frame_run m ρ hm))

/-- The class words in range make every point's words pass. -/
theorem fits_of_words (h : ∀ (c : Dev nD) (j : S4x100.Idx),
    (Scalar.indexCast (wordsOf (m ((c : Thread nD τ).loc main_arg1)) j)).toNat < 21) : Fits m := fun c t n hn => by
  have hw : (Scalar.indexCast (ids m c t (cellAt (grid0.coords t) n hn))).toNat < 21 := by
    rw [ids_at, V_words]
    exact h c _
  intro a
  match a with
  | ⟨0, _⟩ => show (Scalar.indexCast _).toNat + 1 ≤ 21; omega
  | ⟨1, _⟩ => show 0 + 96 ≤ 96; omega
  | ⟨2, _⟩ => show 0 + 384 ≤ 384; omega

end Cert.KernelIdeal.Launched

end
-- ==== Proof.Range.lean ====
/- The precondition: every class word lies between 0 and 20. It holds of the same words in every program that reads the detections. -/
module

public import proofs.«01_k».proof.Proof.Result
public import proofs.«01_k».proof.Defs

@[expose] public section

noncomputable section

/-- The side conditions the precondition's operations state. -/
instance Cert.Pre_classes_in_range.stated : Cert.Pre_classes_in_range.Facts where
  slices_S4x100x6_S4x100x1_0_0_4 := by decide
  shapeCasts_S4x100x1_S4x100 := by decide
  bcast_S_S4x100 := by decide

namespace Cert.KernelIdeal.Launched

open Idealize.ShloMosaic Idealize.ShloMosaic.TcCoe Idealize.SL.Sem
open Cert.KernelIdeal.Gen

/-- A word is between 0 and 20 when the two signed comparisons say so. -/
theorem word_lt {w : BitVec 32} (h : IntOp.andi (IntOp.cmpi .sge w 0#32) (IntOp.cmpi .slt w 21#32) = 1#1) : w.toNat < 21 := by
  unfold IntOp.cmpi IntOp.andi at h
  by_cases hge : (0#32).sle w = true
  · by_cases hlt : w.slt 21#32 = true
    · simp only [BitVec.sle, BitVec.slt, decide_eq_true_eq, BitVec.toInt, BitVec.toNat_ofNat] at hge hlt
      omega
    · rw [Bool.not_eq_true] at hlt
      simp [hlt] at h
  · rw [Bool.not_eq_true] at hge
    simp [hge] at h

/-- A word below 21 names the plane of its number. -/
theorem plane_of_word {w : BitVec 32} (h : w.toNat < 21) : (Scalar.indexCast w).toNat = w.toNat := rfl

/-- The precondition bounds every class word. -/
theorem words_in_range {F : FTy → Type} [FloatOps F] (a0 : S4x384x384x3.Idx → F .f32) (a1 : S4x100x6.Idx → F .f32)
    (a2 : S4x100x384x384.Idx → F .f32) (a3 : S21x3.Idx → F .f32)
    (h : Cert.Pre_classes_in_range.fn (F := F) a0 a1 a2 a3 = fun _ => 1#1) (j : S4x100.Idx) : (wordsOf a1 j).toNat < 21 :=
  word_lt (congrFun h j)

/-- Under the precondition every word a point reads passes its side condition. -/
theorem fits {F : FTy → Type} [FloatOps F] (m : (ℓ : Loc nD τ sig) → Buf (Elt F) ℓ)
    (h : ∀ c : Dev nD, Cert.Pre_classes_in_range.fn (F := F) (m ((c : Thread nD τ).loc main_arg0)) (m ((c : Thread nD τ).loc main_arg1))
      (m ((c : Thread nD τ).loc main_arg2)) (m ((c : Thread nD τ).loc main_arg3)) = fun _ => 1#1) : Fits m :=
  fits_of_words m fun c j => words_in_range _ _ _ _ (h c) j

end Cert.KernelIdeal.Launched

end
-- ==== Proof.Same.lean ====
/- The program as traced and the program its idealization prints are one program, so a run of the one is a run of the other. -/
module

public import proofs.«01_k».proof.Proof.Gen.Kernel
public import proofs.«01_k».proof.Proof.Range

@[expose] public section

noncomputable section

namespace Cert.Kernel.Same

open Idealize.ShloMosaic Idealize.SL.Sem

variable {F : FTy → Type} [FloatOps F]

/-- The two programs are the same term. -/
theorem same_main : Cert.Kernel.main (F := F) = Cert.KernelIdeal.main (F := F) := by chain_rfl

/-- So are the bodies they call. -/
theorem same_defs : Cert.Kernel.defs (F := F) = Cert.KernelIdeal.defs (F := F) := by chain_rfl

/-- A run of a program is a run of a program equal to it. -/
theorem run_of_eq {nD : Nat} {τ : Topo} {sig : RefSig} {Val : EltTy → Type} {Λ : Labels} {d d' : Defs nD τ sig Val Λ}
    {p p' : Dev nD → Prog (TpuEff nD τ sig Val Λ .tc) PUnit} {s : MemSt nD τ sig Val} {Q : PUnit × MemSt nD τ sig Val → Prop}
    (hd : d = d') (hp : p = p') (h : θ_run d' (onTc (τ := τ) p') s Q) : θ_run d (onTc (τ := τ) p) s Q := by
  subst hd hp
  exact h

/-- The traced program's frame: under the precondition its arguments end as they were, every counter at zero. -/
theorem frame_run (m : (ℓ : Loc nD τ sig) → Buf (Elt F) ℓ) (ρ : Dev nD → PrngReg) (hm : Cert.KernelIdeal.Launched.Fits (F := F) m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  run_of_eq same_defs same_main (Cert.KernelIdeal.Launched.frame_run (F := F) m ρ hm)

end Cert.Kernel.Same

end
-- ==== Proof.RefRun.lean ====
/- The reference's run: its operations in order, and the result array they leave, written as four steps of the problem's mathematics. -/
module

public import proofs.«01_k».proof.Proof.Gen.ReferenceIdeal
public import Idealize.ShloMosaic.Lib.Claim
public import Idealize.ShloMosaic.Lib.Quiescent

@[expose] public section

noncomputable section

namespace Cert.ReferenceIdeal.Plain

open Idealize.ShloMosaic Idealize.ShloMosaic.TcCoe Idealize.ShloMosaic.StableHlo Idealize.SL.Sem
open Cert.ReferenceIdeal.Gen

variable {F : FTy → Type} [FloatOps F]

/-! ## What the reference computes -/

/-- The class words: the fifth column of the detections, converted to integers. -/
def words (a1 : FVec F S4x100x6 .f32) : IVec S4x100 32 :=
  fptosi 32 (shapeCast S4x100 (extractStridedSlice S4x100x1 ![0, 0, 4] a1 slices_S4x100x6_S4x100x1_0_0_4) shapeCasts_S4x100x1_S4x100)

/-- The class totals of image `b`: its masks summed into the planes their words name. -/
def bins (b : Nat) (hw : S4x100.Slices ![b, 0] S1x100) (hm : S4x100x384x384.Slices ![b, 0, 0, 0] S1x100x384x384)
    (w : IVec S4x100 32) (a2 : FVec F S4x100x384x384 .f32) : FVec F S21x384x384 .f32 :=
  Host.scatterAdd scatter_S21x384x384_S100x1_S100x384x384_12_0_0_1
    (broadcastInDim S21x384x384 ![] bcast_S_S21x384x384 (constant S_ .f32 0x00000000#32))
    (broadcastInDim S100x1 ![0] bcast_S100_S100x1_0 (shapeCast S100 (extractStridedSlice S1x100 ![b, 0] w hw) shapeCasts_S1x100_S100))
    (shapeCast S100x384x384 (extractStridedSlice S1x100x384x384 ![b, 0, 0, 0] a2 hm) shapeCasts_S1x100x384x384_S100x384x384)

/-- One image's totals as a slab of the stack. -/
def slab (x : FVec F S21x384x384 .f32) : FVec F S1x21x384x384 .f32 :=
  broadcastInDim S1x21x384x384 ![1, 2, 3] bcast_S21x384x384_S1x21x384x384_1_2_3 x

/-- The four images' totals, stacked. -/
def stack (w : IVec S4x100 32) (a2 : FVec F S4x100x384x384 .f32) : FVec F S4x21x384x384 .f32 :=
  concatenate S4x21x384x384 0
    [⟨S1x21x384x384, slab (bins 0 slices_S4x100_S1x100_0_0 slices_S4x100x384x384_S1x100x384x384_0_0_0_0 w a2)⟩,
     ⟨S1x21x384x384, slab (bins 1 slices_S4x100_S1x100_1_0 slices_S4x100x384x384_S1x100x384x384_1_0_0_0 w a2)⟩,
     ⟨S1x21x384x384, slab (bins 2 slices_S4x100_S1x100_2_0 slices_S4x100x384x384_S1x100x384x384_2_0_0_0 w a2)⟩,
     ⟨S1x21x384x384, slab (bins 3 slices_S4x100_S1x100_3_0 slices_S4x100x384x384_S1x100x384x384_3_0_0_0 w a2)⟩]
    concatenates_S1x21x384x384_S1x21x384x384_S1x21x384x384_S1x21x384x384_S4x21x384x384_d0

/-- The segmentation: one where a total is above a half, zero elsewhere, classes last. -/
def present (s : FVec F S4x21x384x384 .f32) : FVec F S4x384x384x21 .f32 :=
  transpose S4x384x384x21 [0, 2, 3, 1]
    (uitofp .f32 (cmpf .ogt s (broadcastInDim S4x21x384x384 ![] bcast_S_S4x21x384x384 (constant S_ .f32 0x3F000000#32))))
    transposes_S4x21x384x384_S4x384x384x21_0_2_3_1

/-- The colours of the classes present, summed. -/
def tint (q : FVec F S4x384x384x21 .f32) (a3 : FVec F S21x3 .f32) : FVec F S4x384x384x3 .f32 :=
  Host.reduceAdd
    (mulf (broadcastInDim S4x384x384x21x3 ![0, 1, 2, 3, 4] bcast_S1x1x1x21x3_S4x384x384x21x3_0_1_2_3_4
            (broadcastInDim S1x1x1x21x3 ![3, 4] bcast_S21x3_S1x1x1x21x3_3_4 a3))
          (broadcastInDim S4x384x384x21x3 ![0, 1, 2, 3, 4] bcast_S4x384x384x21x1_S4x384x384x21x3_0_1_2_3_4
            (broadcastInDim S4x384x384x21x1 ![0, 1, 2, 3] bcast_S4x384x384x21_S4x384x384x21x1_0_1_2_3 q)))
    (constant S_ .f32 0x00000000#32) reducesTo_S4x384x384x21x3_S4x384x384x3_d3 h_S_

/-- The image with the tint laid over it, clipped and rounded to bytes. -/
def bytes (a0 t : FVec F S4x384x384x3 .f32) : IVec S4x384x384x3 8 :=
  trunci 8 (fptosi 32
    (minimumf (broadcastInDim S4x384x384x3 ![] bcast_S_S4x384x384x3 (constant S_ .f32 0x437F0000#32))
      (maximumf (broadcastInDim S4x384x384x3 ![] bcast_S_S4x384x384x3 (constant S_ .f32 0x00000000#32))
        (addf a0 (mulf t (broadcastInDim S4x384x384x3 ![] bcast_S_S4x384x384x3 (constant S_ .f32 0x3E99999A#32)))))))
    natLt_8_32

/-- The reference's result, from its four arguments. -/
def value (a0 : FVec F S4x384x384x3 .f32) (a1 : FVec F S4x100x6 .f32) (a2 : FVec F S4x100x384x384 .f32) (a3 : FVec F S21x3 .f32) :
    IVec S4x384x384x3 8 :=
  bytes a0 (tint (present (stack (words a1) a2)) a3)

/-! ## The run -/

/-- The reference's operations in order, its call of the clip written out. -/
abbrev ops : List (HloOp τ sig (Elt F)) :=
  [ unary main_arg1 main_v0 (extractStridedSlice S4x100x1 ![0, 0, 4] · slices_S4x100x6_S4x100x1_0_0_4),
    reshape main_v0 main_v1 rfl shapeCasts_S4x100x1_S4x100,
    unary main_v1 main_v2 (fptosi 32),
    unary main_arg2 main_v3 (extractStridedSlice S1x100x384x384 ![0, 0, 0, 0] · slices_S4x100x384x384_S1x100x384x384_0_0_0_0),
    reshape main_v3 main_v4 rfl shapeCasts_S1x100x384x384_S100x384x384,
    unary main_arg2 main_v5 (extractStridedSlice S1x100x384x384 ![1, 0, 0, 0] · slices_S4x100x384x384_S1x100x384x384_1_0_0_0),
    reshape main_v5 main_v6 rfl shapeCasts_S1x100x384x384_S100x384x384,
    unary main_arg2 main_v7 (extractStridedSlice S1x100x384x384 ![2, 0, 0, 0] · slices_S4x100x384x384_S1x100x384x384_2_0_0_0),
    reshape main_v7 main_v8 rfl shapeCasts_S1x100x384x384_S100x384x384,
    unary main_arg2 main_v9 (extractStridedSlice S1x100x384x384 ![3, 0, 0, 0] · slices_S4x100x384x384_S1x100x384x384_3_0_0_0),
    reshape main_v9 main_v10 rfl shapeCasts_S1x100x384x384_S100x384x384,
    unary main_v2 main_v11 (extractStridedSlice S1x100 ![0, 0] · slices_S4x100_S1x100_0_0),
    reshape main_v11 main_v12 rfl shapeCasts_S1x100_S100,
    unary main_v2 main_v13 (extractStridedSlice S1x100 ![1, 0] · slices_S4x100_S1x100_1_0),
    reshape main_v13 main_v14 rfl shapeCasts_S1x100_S100,
    unary main_v2 main_v15 (extractStridedSlice S1x100 ![2, 0] · slices_S4x100_S1x100_2_0),
    reshape main_v15 main_v16 rfl shapeCasts_S1x100_S100,
    unary main_v2 main_v17 (extractStridedSlice S1x100 ![3, 0] · slices_S4x100_S1x100_3_0),
    reshape main_v17 main_v18 rfl shapeCasts_S1x100_S100,
    nullary main_cst (constant S_ .f32 0x00000000#32),
    unary main_cst main_v19 (broadcastInDim S21x384x384 ![] bcast_S_S21x384x384),
    unary main_v12 main_v20 (broadcastInDim S100x1 ![0] bcast_S100_S100x1_0),
    ternary main_v19 main_v20 main_v4 main_v21 (fun x i u => Host.scatterAdd scatter_S21x384x384_S100x1_S100x384x384_12_0_0_1 x i u),
    nullary main_cst_0 (constant S_ .f32 0x00000000#32),
    unary main_cst_0 main_v22 (broadcastInDim S21x384x384 ![] bcast_S_S21x384x384),
    unary main_v14 main_v23 (broadcastInDim S100x1 ![0] bcast_S100_S100x1_0),
    ternary main_v22 main_v23 main_v6 main_v24 (fun x i u => Host.scatterAdd scatter_S21x384x384_S100x1_S100x384x384_12_0_0_1 x i u),
    nullary main_cst_1 (constant S_ .f32 0x00000000#32),
    unary main_cst_1 main_v25 (broadcastInDim S21x384x384 ![] bcast_S_S21x384x384),
    unary main_v16 main_v26 (broadcastInDim S100x1 ![0] bcast_S100_S100x1_0),
    ternary main_v25 main_v26 main_v8 main_v27 (fun x i u => Host.scatterAdd scatter_S21x384x384_S100x1_S100x384x384_12_0_0_1 x i u),
    nullary main_cst_2 (constant S_ .f32 0x00000000#32),
    unary main_cst_2 main_v28 (broadcastInDim S21x384x384 ![] bcast_S_S21x384x384),
    unary main_v18 main_v29 (broadcastInDim S100x1 ![0] bcast_S100_S100x1_0),
    ternary main_v28 main_v29 main_v10 main_v30 (fun x i u => Host.scatterAdd scatter_S21x384x384_S100x1_S100x384x384_12_0_0_1 x i u),
    unary main_v21 main_v31 (broadcastInDim S1x21x384x384 ![1, 2, 3] bcast_S21x384x384_S1x21x384x384_1_2_3),
    unary main_v24 main_v32 (broadcastInDim S1x21x384x384 ![1, 2, 3] bcast_S21x384x384_S1x21x384x384_1_2_3),
    unary main_v27 main_v33 (broadcastInDim S1x21x384x384 ![1, 2, 3] bcast_S21x384x384_S1x21x384x384_1_2_3),
    unary main_v30 main_v34 (broadcastInDim S1x21x384x384 ![1, 2, 3] bcast_S21x384x384_S1x21x384x384_1_2_3),
    nary ![main_v31, main_v32, main_v33, main_v34] main_v35 (fun u => (concatenate S4x21x384x384 0 [⟨S1x21x384x384, u 0⟩, ⟨S1x21x384x384, u 1⟩, ⟨S1x21x384x384, u 2⟩, ⟨S1x21x384x384, u 3⟩] concatenates_S1x21x384x384_S1x21x384x384_S1x21x384x384_S1x21x384x384_S4x21x384x384_d0 : (⟨S4x21x384x384, .f32⟩ : BufTy).Contents (Elt F))),
    nullary main_cst_3 (constant S_ .f32 0x3F000000#32),
    unary main_cst_3 main_v36 (broadcastInDim S4x21x384x384 ![] bcast_S_S4x21x384x384),
    binary main_v35 main_v36 main_v37 (cmpf .ogt),
    unary main_v37 main_v38 (uitofp .f32),
    unary main_v38 main_v39 (transpose S4x384x384x21 [0, 2, 3, 1] · transposes_S4x21x384x384_S4x384x384x21_0_2_3_1),
    unary main_v39 main_v40 (broadcastInDim S4x384x384x21x1 ![0, 1, 2, 3] bcast_S4x384x384x21_S4x384x384x21x1_0_1_2_3),
    unary main_arg3 main_v41 (broadcastInDim S1x1x1x21x3 ![3, 4] bcast_S21x3_S1x1x1x21x3_3_4),
    unary main_v41 main_v42 (broadcastInDim S4x384x384x21x3 ![0, 1, 2, 3, 4] bcast_S1x1x1x21x3_S4x384x384x21x3_0_1_2_3_4),
    unary main_v40 main_v43 (broadcastInDim S4x384x384x21x3 ![0, 1, 2, 3, 4] bcast_S4x384x384x21x1_S4x384x384x21x3_0_1_2_3_4),
    binary main_v42 main_v43 main_v44 mulf,
    nullary main_cst_4 (constant S_ .f32 0x00000000#32),
    binary main_v44 main_cst_4 main_v45 (fun x v => Host.reduceAdd x v reducesTo_S4x384x384x21x3_S4x384x384x3_d3 h_S_),
    nullary main_cst_5 (constant S_ .f32 0x3E99999A#32),
    unary main_cst_5 main_v46 (broadcastInDim S4x384x384x3 ![] bcast_S_S4x384x384x3),
    binary main_v45 main_v46 main_v47 mulf,
    binary main_arg0 main_v47 main_v48 addf,
    nullary main_cst_6 (constant S_ .f32 0x00000000#32),
    nullary main_cst_7 (constant S_ .f32 0x437F0000#32),
    TRef.unary (.of main_cst_6) main_call0.v0 id,
    TRef.unary main_call0.v0 main_call0.v1 (broadcastInDim S4x384x384x3 ![] bcast_S_S4x384x384x3),
    TRef.binary main_call0.v1 (.of main_v48) main_call0.v2 maximumf,
    TRef.unary (.of main_cst_7) main_call0.v3 id,
    TRef.unary main_call0.v3 main_call0.v4 (broadcastInDim S4x384x384x3 ![] bcast_S_S4x384x384x3),
    TRef.binary main_call0.v4 main_call0.v2 main_call0.v5 minimumf,
    unary main_v49 main_v50 (fptosi 32),
    unary main_v50 main_v51 (trunci 8 · natLt_8_32) ]

set_option maxRecDepth 4096 in
/-- The reference is that line of operations. -/
theorem main_eq (c : Dev nD) : main (F := F) c = seq ops := by
  simp only [main, main_part0, main_part1, fn_clip.body, seq, bind_assoc, pure_bind]
  rfl

/-- The operations leave the value in the result array. -/
theorem result_eq (V : Valuation τ sig (Elt F)) :
    after ops V (main_v51 : DevRef τ sig)
      = value (V (main_arg0 : DevRef τ sig)) (V (main_arg1 : DevRef τ sig)) (V (main_arg2 : DevRef τ sig)) (V (main_arg3 : DevRef τ sig)) := by
  after_results_simp
  rfl

/-- The operations leave the image as it was. -/
theorem image_kept (V : Valuation τ sig (Elt F)) : after ops V (main_arg0 : DevRef τ sig) = V (main_arg0 : DevRef τ sig) := by
  simp only [after_cons, after_nil]
  rfl

/-- The operations leave the detections as they were. -/
theorem detections_kept (V : Valuation τ sig (Elt F)) : after ops V (main_arg1 : DevRef τ sig) = V (main_arg1 : DevRef τ sig) := by
  simp only [after_cons, after_nil]
  rfl

/-- The operations leave the masks as they were. -/
theorem masks_kept (V : Valuation τ sig (Elt F)) : after ops V (main_arg2 : DevRef τ sig) = V (main_arg2 : DevRef τ sig) := by
  simp only [after_cons, after_nil]
  rfl

/-- The operations leave the colours as they were. -/
theorem colours_kept (V : Valuation τ sig (Elt F)) : after ops V (main_arg3 : DevRef τ sig) = V (main_arg3 : DevRef τ sig) := by
  simp only [after_cons, after_nil]
  rfl

/-- The reference runs, leaves the value in the result array, its arguments as they were, and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v51)
            = value (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  θ_run_mono
    (run_hlo defs main (ops := ops) main_eq (by decide) (by decide) (by simp)
      (by intro _ h; (repeat (cases h with | head => rfl | tail _ h => ?_)); exact nomatch h) m ρ)
    fun r h => ⟨fun c => ⟨(h c main_v51).trans (result_eq _), (h c main_arg0).trans (image_kept _), (h c main_arg1).trans (detections_kept _),
      (h c main_arg2).trans (masks_kept _), (h c main_arg3).trans (colours_kept _)⟩, sem_eq_zero_of_no_sems rfl _⟩

end Cert.ReferenceIdeal.Plain

end
-- ==== Proof.RefRead.lean ====
/- The reference's result at the exact reals, pixel by pixel: the class totals as sums over the masks, the tint as a sum over the classes. -/
module

public import proofs.«01_k».proof.Proof.RefRun
public import Idealize.ShloMosaic.PureOps.Ideal.Laws
public import Idealize.ShloMosaic.Lib.Routing.OpsPair
public import Idealize.ShloMosaic.Lib.Pipeline.Value

@[expose] public section

noncomputable section

namespace Cert.ReferenceIdeal.Plain

open Idealize.ShloMosaic Idealize.SL.Sem
open Cert.ReferenceIdeal.Gen

/-! ## Places -/

/-- Word `n` of image `b`. -/
def wordPlace (b : Fin 4) (n : Fin 100) : S4x100.Idx := fun a => match a with
  | ⟨0, _⟩ => b
  | ⟨1, _⟩ => n

/-- Pixel `(h, v)` of mask `n` of image `b`. -/
def maskPlace (b : Fin 4) (n : Fin 100) (h v : Fin 384) : S4x100x384x384.Idx := fun a => match a with
  | ⟨0, _⟩ => b
  | ⟨1, _⟩ => n
  | ⟨2, _⟩ => h
  | ⟨3, _⟩ => v

/-- Class `p` on channel `k`. -/
def colourPlace (p : Fin 21) (k : Fin 3) : S21x3.Idx := fun a => match a with
  | ⟨0, _⟩ => p
  | ⟨1, _⟩ => k

/-- Class `p` at pixel `(h, v)` of one image. -/
def cell (p : Fin 21) (h v : Fin 384) : S21x384x384.Idx := fun a => match a with
  | ⟨0, _⟩ => p
  | ⟨1, _⟩ => h
  | ⟨2, _⟩ => v

/-- Class `p` at pixel `(h, v)` of image `b`. -/
def stackPlace (b : Fin 4) (p : Fin 21) (h v : Fin 384) : S4x21x384x384.Idx := fun a => match a with
  | ⟨0, _⟩ => b
  | ⟨1, _⟩ => p
  | ⟨2, _⟩ => h
  | ⟨3, _⟩ => v

/-- The same place in a slab of one image. -/
def slabPlace (p : Fin 21) (h v : Fin 384) : S1x21x384x384.Idx := fun a => match a with
  | ⟨0, _⟩ => ⟨0, Nat.one_pos⟩
  | ⟨1, _⟩ => p
  | ⟨2, _⟩ => h
  | ⟨3, _⟩ => v

/-- Pixel `(h, v)` of mask `n` of one image. -/
def maskCell (n : Fin 100) (h v : Fin 384) : S100x384x384.Idx := fun a => match a with
  | ⟨0, _⟩ => n
  | ⟨1, _⟩ => h
  | ⟨2, _⟩ => v

/-- Word `n` of one image, as an index vector of one component. -/
def row (n : Fin 100) : S100x1.Idx := fun a => match a with
  | ⟨0, _⟩ => n
  | ⟨1, _⟩ => ⟨0, Nat.one_pos⟩

/-! ## Where a mask lands -/

/-- The scatter's dimension numbers. -/
abbrev sc : ScatterDims S21x384x384 S100x1 S100x384x384 := scatter_S21x384x384_S100x1_S100x384x384_12_0_0_1

/-- An update starts at the plane its mask's word names. -/
theorem start_plane (j : S100x384x384.Idx) (idx : IVec S100x1 32) : sc.start j idx 0 = (idx (row (j 0))).toInt := by
  show (idx (sc.siIdx j _)).toInt = _
  congr 2
  funext b
  match b with
  | ⟨0, _⟩ => rfl
  | ⟨1, _⟩ => rfl

/-- An update lands at a class's pixel when its word is the class and its pixel the pixel. -/
theorem lands (j : S100x384x384.Idx) (idx : IVec S100x1 32) (p : Fin 21) (h v : Fin 384) :
    sc.resultIdx? j idx = some (cell p h v) ↔ (idx (row (j 0))).toInt = (p.val : Int) ∧ j 1 = h ∧ j 2 = v := by
  rw [Routing.resultIdx?_eq_some]
  constructor
  · intro q
    have q0 := q 0
    have q1 : (0 : Int) + ((j 1).val : Int) = (h.val : Int) := q 1
    have q2 : (0 : Int) + ((j 2).val : Int) = (v.val : Int) := q 2
    rw [start_plane] at q0
    have q0' : (idx (row (j 0))).toInt + ((0 : Nat) : Int) = (p.val : Int) := q0
    exact ⟨by omega, Fin.ext (by omega), Fin.ext (by omega)⟩
  · rintro ⟨h0, h1, h2⟩ a
    match a with
    | ⟨0, _⟩ =>
      show sc.start j idx 0 + ((0 : Nat) : Int) = (p.val : Int)
      rw [start_plane, h0]
      rfl
    | ⟨1, _⟩ =>
      show (0 : Int) + ((j 1).val : Int) = (h.val : Int)
      rw [h1]; omega
    | ⟨2, _⟩ =>
      show (0 : Int) + ((j 2).val : Int) = (v.val : Int)
      rw [h2]; omega

/-- What lands at a class's pixel, summed: the masks whose word is the class, at that pixel. -/
theorem landed (idx : IVec S100x1 32) (u : S100x384x384.Idx → EReal) (p : Fin 21) (h v : Fin 384) :
    ∑ j ∈ Finset.univ.filter (fun j => sc.resultIdx? j idx = some (cell p h v)), u j
      = ∑ n : Fin 100, if (idx (row n)).toInt = (p.val : Int) then u (maskCell n h v) else 0 := by
  rw [← Finset.sum_filter]
  refine Finset.sum_nbij' (fun j => (j 0 : Fin 100)) (fun n => maskCell n h v) ?_ ?_ ?_ ?_ ?_
  · intro j hj
    exact Finset.mem_filter.2 ⟨Finset.mem_univ _, ((lands j idx p h v).1 (Finset.mem_filter.1 hj).2).1⟩
  · intro n hn
    exact Finset.mem_filter.2 ⟨Finset.mem_univ _, (lands _ idx p h v).2 ⟨(Finset.mem_filter.1 hn).2, rfl, rfl⟩⟩
  · intro j hj
    obtain ⟨-, h1, h2⟩ := (lands j idx p h v).1 (Finset.mem_filter.1 hj).2
    funext a
    match a with
    | ⟨0, _⟩ => rfl
    | ⟨1, _⟩ => exact h1.symm
    | ⟨2, _⟩ => exact h2.symm
  · intro n _; rfl
  · intro j hj
    obtain ⟨-, h1, h2⟩ := (lands j idx p h v).1 (Finset.mem_filter.1 hj).2
    congr 1
    funext a
    match a with
    | ⟨0, _⟩ => rfl
    | ⟨1, _⟩ => exact h1
    | ⟨2, _⟩ => exact h2

/-! ## The class totals -/

/-- A class's total at a pixel: the masks whose word is the class. -/
def classAt (w : IVec S4x100 32) (a2 : FVec Ideal S4x100x384x384 .f32) (b : Fin 4) (p : Fin 21) (h v : Fin 384) : EReal :=
  0 + ∑ n : Fin 100, if (w (wordPlace b n)).toInt = (p.val : Int) then a2 (maskPlace b n h v) else 0

/-- An image's word, read off its row. -/
theorem word_read (b : Fin 4) (hw : S4x100.Slices ![b.val, 0] S1x100) (w : IVec S4x100 32) (n : Fin 100) :
    broadcastInDim S100x1 ![0] bcast_S100_S100x1_0 (shapeCast S100 (extractStridedSlice S1x100 ![b.val, 0] w hw) shapeCasts_S1x100_S100) (row n)
      = w (wordPlace b n) := by
  refine (shapeCast_dropUnit_apply (n := 1) ![100] _ shapeCasts_S1x100_S100 _).trans (congrArg w ?_)
  funext a
  match a with
  | ⟨0, _⟩ => rfl
  | ⟨1, _⟩ => exact Fin.ext (Nat.zero_add _)

/-- An image's mask pixel, read off its masks. -/
theorem mask_read (b : Fin 4) (hm : S4x100x384x384.Slices ![b.val, 0, 0, 0] S1x100x384x384) (a2 : FVec Ideal S4x100x384x384 .f32)
    (n : Fin 100) (h v : Fin 384) :
    shapeCast S100x384x384 (extractStridedSlice S1x100x384x384 ![b.val, 0, 0, 0] a2 hm) shapeCasts_S1x100x384x384_S100x384x384 (maskCell n h v)
      = a2 (maskPlace b n h v) := by
  refine (shapeCast_dropUnit_apply (n := 3) ![100, 384, 384] _ shapeCasts_S1x100x384x384_S100x384x384 _).trans (congrArg a2 ?_)
  funext a
  match a with
  | ⟨0, _⟩ => rfl
  | ⟨1, _⟩ => exact Fin.ext (Nat.zero_add _)
  | ⟨2, _⟩ => exact Fin.ext (Nat.zero_add _)
  | ⟨3, _⟩ => exact Fin.ext (Nat.zero_add _)

/-- One image's totals at a pixel. -/
theorem bins_at (b : Fin 4) (hw : S4x100.Slices ![b.val, 0] S1x100) (hm : S4x100x384x384.Slices ![b.val, 0, 0, 0] S1x100x384x384)
    (w : IVec S4x100 32) (a2 : FVec Ideal S4x100x384x384 .f32) (p : Fin 21) (h v : Fin 384) :
    bins b.val hw hm w a2 (cell p h v) = classAt w a2 b p h v := by
  show Ideal.ofBits .f32 0x00000000#32 + ∑ j ∈ _, _ = _
  rw [landed, show Ideal.ofBits .f32 0x00000000#32 = 0 from Ideal.ofBits_zero_f32]
  unfold classAt
  refine congrArg (0 + ·) (Finset.sum_congr rfl fun n _ => ?_)
  rw [word_read, mask_read]

/-- A slab holds its image's totals. -/
theorem slab_at (x : FVec Ideal S21x384x384 .f32) (p : Fin 21) (h v : Fin 384) : slab x (slabPlace p h v) = x (cell p h v) := by
  refine congrArg x (funext fun a => ?_)
  match a with
  | ⟨0, _⟩ => rfl
  | ⟨1, _⟩ => rfl
  | ⟨2, _⟩ => rfl

/-- The stack's place off its first axis. -/
theorem slab_place (b : Fin 4) (p : Fin 21) (h v : Fin 384) (a : Fin 4) (ha : a ≠ 0) :
    (slabPlace p h v a).val = (stackPlace b p h v a).val := by
  match a with
  | ⟨0, _⟩ => exact absurd rfl ha
  | ⟨1, _⟩ => rfl
  | ⟨2, _⟩ => rfl
  | ⟨3, _⟩ => rfl

/-- A stack of four slabs read in one of them. -/
theorem stacked (x : Fin 4 → FVec Ideal S1x21x384x384 .f32) (b : Fin 4) (p : Fin 21) (h v : Fin 384) :
    concatenate S4x21x384x384 0 [⟨S1x21x384x384, x 0⟩, ⟨S1x21x384x384, x 1⟩, ⟨S1x21x384x384, x 2⟩, ⟨S1x21x384x384, x 3⟩]
      concatenates_S1x21x384x384_S1x21x384x384_S1x21x384x384_S1x21x384x384_S4x21x384x384_d0 (stackPlace b p h v) = x b (slabPlace p h v) := by
  refine concatenate_apply_piece (t := S4x21x384x384) 0
    [⟨S1x21x384x384, x 0⟩, ⟨S1x21x384x384, x 1⟩, ⟨S1x21x384x384, x 2⟩, ⟨S1x21x384x384, x 3⟩] _ _ b.val b.isLt S1x21x384x384 (x b) ?_ rfl b.val ?_ (slabPlace p h v)
    (slab_place b p h v) rfl
  · match b with
    | ⟨0, _⟩ => rfl
    | ⟨1, _⟩ => rfl
    | ⟨2, _⟩ => rfl
    | ⟨3, _⟩ => rfl
  · match b with
    | ⟨0, _⟩ => rfl
    | ⟨1, _⟩ => rfl
    | ⟨2, _⟩ => rfl
    | ⟨3, _⟩ => rfl

/-- The stack holds the images' totals. -/
theorem stack_at (w : IVec S4x100 32) (a2 : FVec Ideal S4x100x384x384 .f32) (b : Fin 4) (p : Fin 21) (h v : Fin 384) :
    stack w a2 (stackPlace b p h v) = classAt w a2 b p h v := by
  refine (stacked ![slab (bins 0 _ _ w a2), slab (bins 1 _ _ w a2), slab (bins 2 _ _ w a2), slab (bins 3 _ _ w a2)] b p h v).trans ?_
  match b with
  | ⟨0, _⟩ => exact (slab_at _ p h v).trans (bins_at 0 _ _ w a2 p h v)
  | ⟨1, _⟩ => exact (slab_at _ p h v).trans (bins_at 1 _ _ w a2 p h v)
  | ⟨2, _⟩ => exact (slab_at _ p h v).trans (bins_at 2 _ _ w a2 p h v)
  | ⟨3, _⟩ => exact (slab_at _ p h v).trans (bins_at 3 _ _ w a2 p h v)

/-! ## The tint and the bytes -/

/-- One where a total is above a half, zero elsewhere. -/
def flag (t : EReal) : EReal := FloatOps.uitofp (F := Ideal) .f32 (FloatOps.cmpf (F := Ideal) (φ := .f32) .ogt t (Ideal.ofBits .f32 0x3F000000#32))

/-- The tint at a pixel: the colours of the classes present. -/
theorem tint_at (s : FVec Ideal S4x21x384x384 .f32) (a3 : FVec Ideal S21x3 .f32) (y : S4x384x384x3.Idx) :
    tint (present s) a3 y
      = 0 + ∑ p : Fin 21, a3 (colourPlace p (y 3)) * flag (s (stackPlace (y 0) p (y 1) (y 2))) := by
  show Ideal.hostReduceAdd reducesTo_S4x384x384x21x3_S4x384x384x3_d3 _ (Ideal.ofBits .f32 0x00000000#32) y = _
  rw [Ideal.hostReduceAdd_single reducesTo_S4x384x384x21x3_S4x384x384x3_d3 (by decide),
    show Ideal.ofBits .f32 0x00000000#32 = 0 from Ideal.ofBits_zero_f32]
  refine congrArg (0 + ·) (Finset.sum_congr rfl fun p _ => ?_)
  refine congrArg₂ (fun (c t : EReal) => c * flag t) (congrArg a3 (funext fun a => ?_)) (congrArg s (funext fun a => ?_))
  · match a with
    | ⟨0, _⟩ => rfl
    | ⟨1, _⟩ => rfl
  · match a with
    | ⟨0, _⟩ => rfl
    | ⟨1, _⟩ => rfl
    | ⟨2, _⟩ => rfl
    | ⟨3, _⟩ => rfl

/-- The byte of a tinted value. -/
def byteAt (x t : EReal) : BitVec 8 :=
  (Ideal.fptosi 32 (min (Ideal.ofBits .f32 0x437F0000#32) (max (Ideal.ofBits .f32 0x00000000#32) (x + t * Ideal.ofBits .f32 0x3E99999A#32)))).setWidth 8

/-- The reference's result at a pixel. -/
theorem value_at (a0 : FVec Ideal S4x384x384x3 .f32) (a1 : FVec Ideal S4x100x6 .f32) (a2 : FVec Ideal S4x100x384x384 .f32)
    (a3 : FVec Ideal S21x3 .f32) (y : S4x384x384x3.Idx) :
    value a0 a1 a2 a3 y
      = byteAt (a0 y) (0 + ∑ p : Fin 21, a3 (colourPlace p (y 3)) * flag (classAt (words a1) a2 (y 0) p (y 1) (y 2))) := by
  have e : tint (present (stack (words a1) a2)) a3 y
      = 0 + ∑ p : Fin 21, a3 (colourPlace p (y 3)) * flag (classAt (words a1) a2 (y 0) p (y 1) (y 2)) := by
    rw [tint_at]
    exact congrArg (0 + ·) (Finset.sum_congr rfl fun p _ => congrArg (fun t : EReal => _ * flag t) (stack_at _ _ _ _ _ _))
  rw [← e]
  rfl

end Cert.ReferenceIdeal.Plain

end
-- ==== Proof.Equation.lean ====
/- At the exact reals the kernel's byte of a pixel is the reference's: the same masks are summed in each class, a colour is added
   where it is multiplied by one and left out where it is multiplied by zero, and a value between 0 and 255 becomes the same byte
   directly and by way of a 32-bit integer. -/
module

public import proofs.«01_k».proof.Proof.Result
public import proofs.«01_k».proof.Proof.RefRead

@[expose] public section

noncomputable section

namespace Cert.Equation

open Idealize.ShloMosaic Idealize.SL.Sem
open Cert.KernelIdeal.Body Cert.ReferenceIdeal.Plain

/-! ## The kernel's loops as sums -/

/-- The loop over the masks is the sum of those whose word is the class. -/
theorem classSum_eq (w : Fin 100 → BitVec 32) (x : Fin 100 → EReal) (p : Nat) :
    ∀ (k n : Nat) (h : n + k ≤ 100) (s : EReal),
      classSum (F := Ideal) w x p k n h s
        = s + ∑ q : Fin k, if p = (w ⟨n + q.val, by omega⟩).toNat then x ⟨n + q.val, by omega⟩ else 0
  | 0, _, _, s => by unfold classSum; simp
  | k + 1, n, h, s => by
    unfold classSum
    rw [classSum_eq w x p k (n + 1) (by omega), Fin.sum_univ_succ, ← add_assoc]
    refine congrArg₂ (· + ·) ?_ (Finset.sum_congr rfl fun q _ => ?_)
    · show (if p = (w ⟨n, _⟩).toNat then s + x ⟨n, _⟩ else s) = s + if p = (w ⟨n + 0, _⟩).toNat then x ⟨n + 0, _⟩ else 0
      by_cases e : p = (w ⟨n, by omega⟩).toNat
      · exact (if_pos e).trans (congrArg (s + ·) (if_pos e).symm)
      · exact (if_neg e).trans ((add_zero s).symm.trans (congrArg (s + ·) (if_neg e).symm))
    · have e : (⟨n + 1 + q.val, by omega⟩ : Fin 100) = ⟨n + q.succ.val, by rw [Fin.val_succ]; omega⟩ :=
        Fin.ext (show n + 1 + q.val = n + (q.val + 1) by omega)
      rw [e]

/-- A class's total is the sum of the masks whose word is the class. -/
theorem classTotal_eq (w : Fin 100 → BitVec 32) (x : Fin 100 → EReal) (p : Nat) :
    classTotal (F := Ideal) w x p = 0 + ∑ n : Fin 100, if p = (w n).toNat then x n else 0 := by
  unfold classTotal
  rw [classSum_eq]
  refine congrArg₂ (· + ·) Ideal.ofBits_zero_f32 (Finset.sum_congr rfl fun q _ => ?_)
  have e : (⟨0 + q.val, by omega⟩ : Fin 100) = q := Fin.ext (Nat.zero_add _)
  rw [e]

/-- The loop over the classes is the sum of the colours, each times its flag. -/
theorem paint_eq (tot col : Fin 21 → EReal) :
    ∀ (j c : Nat) (h : c + j ≤ 21) (s : EReal),
      paint (F := Ideal) tot col j c h s
        = s + ∑ q : Fin j, col ⟨c + q.val, by omega⟩ * flag (tot ⟨c + q.val, by omega⟩)
  | 0, _, _, s => by unfold paint; simp
  | j + 1, c, h, s => by
    unfold paint
    rw [paint_eq tot col j (c + 1) (by omega), Fin.sum_univ_succ, ← add_assoc]
    refine congrArg₂ (· + ·) (congrArg (s + ·) (flagged _ _)) (Finset.sum_congr rfl fun q _ => ?_)
    have e : (⟨c + 1 + q.val, by omega⟩ : Fin 21) = ⟨c + q.succ.val, by rw [Fin.val_succ]; omega⟩ :=
      Fin.ext (show c + 1 + q.val = c + (q.val + 1) by omega)
    rw [e]
where
  /-- A colour chosen or left out is the colour times one or zero. -/
  flagged (t c : EReal) :
      Scalar.select (FloatOps.cmpf (F := Ideal) (φ := .f32) .ogt t (Ideal.ofBits .f32 0x3F000000#32)) c (Ideal.ofBits .f32 0x00000000#32)
        = c * flag t := by
    show (if BitVec.ofBool (decide (Ideal.ofBits .f32 0x3F000000#32 < t)) = 1 then c else Ideal.ofBits .f32 0x00000000#32)
      = c * (((BitVec.ofBool (decide (Ideal.ofBits .f32 0x3F000000#32 < t))).toNat : ℝ) : EReal)
    by_cases e : Ideal.ofBits .f32 0x3F000000#32 < t
    · simp [e]
    · simp [e, Ideal.ofBits_zero_f32]

/-! ## The byte -/

/-- A real between 0 and 255 becomes the same byte either way. -/
theorem byte_of_real (r : ℝ) (h0 : 0 ≤ r) (h1 : r ≤ 255) :
    Ideal.fptoui 8 (r : EReal) = (Ideal.fptosi 32 (r : EReal)).setWidth 8 := by
  have f0 : 0 ≤ ⌊r⌋ := Int.floor_nonneg.2 h0
  have f1 : ⌊r⌋ ≤ 255 := by exact_mod_cast (Int.floor_le r).trans h1
  show BitVec.ofInt 8 (max 0 (min (((2 ^ 8 : Nat) : Int) - 1) (if 0 ≤ r then ⌊r⌋ else ⌈r⌉)))
    = (BitVec.ofInt 32 (max (-((2 ^ (32 - 1) : Nat) : Int)) (min (((2 ^ (32 - 1) : Nat) : Int) - 1) (if 0 ≤ r then ⌊r⌋ else ⌈r⌉)))).setWidth 8
  rw [if_pos h0]
  generalize ⌊r⌋ = f at f0 f1
  rw [min_eq_right (by norm_num; omega), max_eq_right f0, min_eq_right (by norm_num; omega), max_eq_right (by norm_num; omega)]
  lift f to Nat using f0
  rw [BitVec.ofInt_natCast, BitVec.ofInt_natCast]
  apply BitVec.eq_of_toNat_eq
  simp only [BitVec.toNat_setWidth, BitVec.toNat_ofNat]
  omega

/-- The value of the upper bound. -/
theorem top_bits : Ideal.ofBits .f32 0x437F0000#32 = ((255 : ℝ) : EReal) := by
  simp [Ideal.ofBits, Ideal.ieee, -EReal.coe_mul]
  norm_num

/-- A value clipped to between 0 and 255 becomes the same byte either way. -/
theorem byte_of_clipped (u : EReal) :
    Ideal.fptoui 8 (min (Ideal.ofBits .f32 0x437F0000#32) (max (Ideal.ofBits .f32 0x00000000#32) u))
      = (Ideal.fptosi 32 (min (Ideal.ofBits .f32 0x437F0000#32) (max (Ideal.ofBits .f32 0x00000000#32) u))).setWidth 8 := by
  rw [top_bits, show Ideal.ofBits .f32 0x00000000#32 = 0 from Ideal.ofBits_zero_f32]
  have h1 : min ((255 : ℝ) : EReal) (max 0 u) ≤ ((255 : ℝ) : EReal) := min_le_left _ _
  have h0 : ((0 : ℝ) : EReal) ≤ min ((255 : ℝ) : EReal) (max 0 u) :=
    le_min (EReal.coe_le_coe_iff.2 (by norm_num)) (le_max_left _ _)
  generalize min ((255 : ℝ) : EReal) (max 0 u) = v at h0 h1
  induction v with
  | bot => exact absurd h0 (by simp)
  | top => exact absurd h1 (by simp)
  | coe r => exact byte_of_real r (EReal.coe_le_coe_iff.1 h0) (EReal.coe_le_coe_iff.1 h1)

/-- The kernel's byte is the reference's. -/
theorem byteOf_eq (x t : EReal) : byteOf (F := Ideal) x t = byteAt x t := byte_of_clipped (x + t * Ideal.ofBits .f32 0x3E99999A#32)

/-! ## The equation -/

/-- A word below 21 is its number read signed. -/
theorem signed_word {w : BitVec 32} (h : w.toNat < 21) : w.toInt = (w.toNat : Int) := by
  rw [BitVec.toInt_eq_toNat_cond, if_pos (by omega)]

/-- Both programs read the class words alike. -/
theorem words_eq (a1 : FVec Ideal Cert.KernelIdeal.S4x100x6 .f32) : Cert.KernelIdeal.Launched.wordsOf a1 = words a1 := rfl

/-- The two results agree wherever the class words are in range. -/
theorem shown_eq (a0 : FVec Ideal Cert.KernelIdeal.S4x384x384x3 .f32) (a1 : FVec Ideal Cert.KernelIdeal.S4x100x6 .f32)
    (a2 : FVec Ideal Cert.KernelIdeal.S4x100x384x384 .f32) (a3 : FVec Ideal Cert.KernelIdeal.S21x3 .f32)
    (h : ∀ j, (words a1 j).toNat < 21) :
    Cert.KernelIdeal.Launched.shown (F := Ideal) a0 a1 a2 a3 = value a0 a1 a2 a3 := by
  funext y
  refine Eq.trans ?_ (value_at a0 a1 a2 a3 y).symm
  refine (byteOf_eq _ _).trans (congrArg (byteAt (a0 y)) ?_)
  refine (paint_eq _ _ 21 0 _ _).trans (congrArg₂ (· + ·) Ideal.ofBits_zero_f32 (Finset.sum_congr rfl fun q _ => ?_))
  have e : (⟨0 + q.val, by omega⟩ : Fin 21) = q := Fin.ext (Nat.zero_add _)
  rw [e]
  refine congrArg₂ (fun (c t : EReal) => c * flag t) (congrArg a3 (funext fun a => ?_)) ?_
  · match a with
    | ⟨0, _⟩ => rfl
    | ⟨1, _⟩ => rfl
  · refine (classTotal_eq _ _ _).trans (congrArg (0 + ·) (Finset.sum_congr rfl fun n _ => ?_))
    have hw : (words a1 (wordPlace (y 0) n)).toInt = (q.val : Int) ↔ q.val = (words a1 (wordPlace (y 0) n)).toNat := by
      rw [signed_word (h _)]
      omega
    exact (if_congr hw rfl rfl).symm

end Cert.Equation

end
-- ==== Proof.lean ====
/- The certificate: the three frames, and the equality of the two results at the exact reals. -/
module

public import proofs.«01_k».proof.Defs
public import proofs.«01_k».proof.Proof.Same
public import proofs.«01_k».proof.Proof.Equation

@[expose] public section

noncomputable section

namespace Cert.Proof

open Idealize.ShloMosaic Idealize.SL.Sem

/-- The traced program's frame. -/
theorem kernel_frame : quiescent_Kernel :=
  fun m g hpre => Cert.Kernel.Same.frame_run (F := Bits) m g (Cert.KernelIdeal.Launched.fits (F := Bits) m hpre)

/-- The idealized program's frame. -/
theorem ideal_frame : quiescent_KernelIdeal :=
  fun m g hpre => Cert.KernelIdeal.Launched.frame_run m g (Cert.KernelIdeal.Launched.fits m hpre)

/-- The reference's frame, which needs no precondition. -/
theorem reference_frame : quiescent_ReferenceIdeal := fun m g _ =>
  θ_run_mono (Cert.ReferenceIdeal.Plain.run m g) fun _ h => ⟨fun c => (h.1 c).2, h.2⟩

/-- The reference's frame under the kernel's precondition. -/
theorem reference_frame_in_range : quiescent_ReferenceIdeal_pre_classes_in_range := fun m g _ =>
  θ_run_mono (Cert.ReferenceIdeal.Plain.run m g) fun _ h => ⟨fun c => (h.1 c).2, h.2⟩

/-- From memories that agree on the arguments both programs run and leave the same bytes. -/
theorem results_agree : algebraic_KernelIdeal_ReferenceIdeal := by
  intro m g m' g' hpre hagree
  refine ⟨_, Cert.KernelIdeal.Launched.run_shown m g (Cert.KernelIdeal.Launched.fits m hpre), ?_⟩
  refine θ_run_mono (Cert.ReferenceIdeal.Plain.run m' g') fun r h c => ⟨((h.1 c).1).trans ?_, (h.1 c).2⟩
  obtain ⟨h0, h1, h2, h3⟩ := hagree c
  rw [h0, h1, h2, h3]
  exact (Cert.Equation.shown_eq _ _ _ _ fun j => Cert.KernelIdeal.Launched.words_in_range _ _ _ _ (hpre c) j).symm

/-- All the claims together. -/
theorem claim : Cert.Claim :=
  ⟨Cert.Kernel.Gen.facts, Cert.KernelIdeal.Gen.facts, Cert.ReferenceIdeal.Gen.facts, Cert.Pre_classes_in_range.stated,
    kernel_frame, ideal_frame, reference_frame, reference_frame_in_range, trivial, results_agree⟩

end Cert.Proof

end
